-- ==== Defs.lean ====
def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelFin (m : (ℓ : Loc Cert.KernelFin.nD Cert.KernelFin.τ Cert.KernelFin.sig) → Buf (Elt Bits) ℓ) : Prop :=
  True

def Pre_KernelFinIdeal (m : (ℓ : Loc Cert.KernelFinIdeal.nD Cert.KernelFinIdeal.τ Cert.KernelFinIdeal.sig) → Buf (Elt Ideal) ℓ) : Prop :=
  True

def Pre_KernelFinIdeal_pre_fin [hPre_pre_fin : Cert.Pre_pre_fin.Facts] (m : (ℓ : Loc Cert.KernelFinIdeal.nD Cert.KernelFinIdeal.τ Cert.KernelFinIdeal.sig) → Buf (Elt Ideal) ℓ) : Prop :=
  ∀ c : Dev Cert.KernelFinIdeal.nD,
    (Cert.Pre_pre_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4)) (m ((c.tc : Thread Cert.KernelFinIdeal.nD Cert.KernelFinIdeal.τ).loc Cert.KernelFinIdeal.main_arg5)) (m ((c.tc : Thread Cert.KernelFinIdeal.nD Cert.KernelFinIdeal.τ).loc Cert.KernelFinIdeal.main_arg6))).1 = (fun _ => 1#1)
    ∧ (Cert.Pre_pre_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4)) (m ((c.tc : Thread Cert.KernelFinIdeal.nD Cert.KernelFinIdeal.τ).loc Cert.KernelFinIdeal.main_arg5)) (m ((c.tc : Thread Cert.KernelFinIdeal.nD Cert.KernelFinIdeal.τ).loc Cert.KernelFinIdeal.main_arg6))).2.1 = (fun _ => 1#1)
    ∧ (Cert.Pre_pre_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4)) (m ((c.tc : Thread Cert.KernelFinIdeal.nD Cert.KernelFinIdeal.τ).loc Cert.KernelFinIdeal.main_arg5)) (m ((c.tc : Thread Cert.KernelFinIdeal.nD Cert.KernelFinIdeal.τ).loc Cert.KernelFinIdeal.main_arg6))).2.2.1 = (fun _ => 1#1)
    ∧ (Cert.Pre_pre_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4)) (m ((c.tc : Thread Cert.KernelFinIdeal.nD Cert.KernelFinIdeal.τ).loc Cert.KernelFinIdeal.main_arg5)) (m ((c.tc : Thread Cert.KernelFinIdeal.nD Cert.KernelFinIdeal.τ).loc Cert.KernelFinIdeal.main_arg6))).2.2.2.1 = (fun _ => 1#1)
    ∧ (Cert.Pre_pre_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4)) (m ((c.tc : Thread Cert.KernelFinIdeal.nD Cert.KernelFinIdeal.τ).loc Cert.KernelFinIdeal.main_arg5)) (m ((c.tc : Thread Cert.KernelFinIdeal.nD Cert.KernelFinIdeal.τ).loc Cert.KernelFinIdeal.main_arg6))).2.2.2.2.1 = (fun _ => 1#1)
    ∧ (Cert.Pre_pre_fin.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4)) (m ((c.tc : Thread Cert.KernelFinIdeal.nD Cert.KernelFinIdeal.τ).loc Cert.KernelFinIdeal.main_arg5)) (m ((c.tc : Thread Cert.KernelFinIdeal.nD Cert.KernelFinIdeal.τ).loc Cert.KernelFinIdeal.main_arg6))).2.2.2.2.2 = (fun _ => 1#1)

def Pre_ReferenceFinIdeal (m : (ℓ : Loc Cert.ReferenceFinIdeal.nD Cert.ReferenceFinIdeal.τ Cert.ReferenceFinIdeal.sig) → Buf (Elt Ideal) ℓ) : Prop :=
  True

def Pre_ReferenceFinIdeal_pre_fin [hPre_pre_fin : Cert.Pre_pre_fin.Facts] (m : (ℓ : Loc Cert.ReferenceFinIdeal.nD Cert.ReferenceFinIdeal.τ Cert.ReferenceFinIdeal.sig) → Buf (Elt Ideal) ℓ) : Prop :=
  ∀ c : Dev Cert.ReferenceFinIdeal.nD,
    (Cert.Pre_pre_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4)) (m ((c.tc : Thread Cert.ReferenceFinIdeal.nD Cert.ReferenceFinIdeal.τ).loc Cert.ReferenceFinIdeal.main_arg5)) (m ((c.tc : Thread Cert.ReferenceFinIdeal.nD Cert.ReferenceFinIdeal.τ).loc Cert.ReferenceFinIdeal.main_arg6))).1 = (fun _ => 1#1)
    ∧ (Cert.Pre_pre_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4)) (m ((c.tc : Thread Cert.ReferenceFinIdeal.nD Cert.ReferenceFinIdeal.τ).loc Cert.ReferenceFinIdeal.main_arg5)) (m ((c.tc : Thread Cert.ReferenceFinIdeal.nD Cert.ReferenceFinIdeal.τ).loc Cert.ReferenceFinIdeal.main_arg6))).2.1 = (fun _ => 1#1)
    ∧ (Cert.Pre_pre_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4)) (m ((c.tc : Thread Cert.ReferenceFinIdeal.nD Cert.ReferenceFinIdeal.τ).loc Cert.ReferenceFinIdeal.main_arg5)) (m ((c.tc : Thread Cert.ReferenceFinIdeal.nD Cert.ReferenceFinIdeal.τ).loc Cert.ReferenceFinIdeal.main_arg6))).2.2.1 = (fun _ => 1#1)
    ∧ (Cert.Pre_pre_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4)) (m ((c.tc : Thread Cert.ReferenceFinIdeal.nD Cert.ReferenceFinIdeal.τ).loc Cert.ReferenceFinIdeal.main_arg5)) (m ((c.tc : Thread Cert.ReferenceFinIdeal.nD Cert.ReferenceFinIdeal.τ).loc Cert.ReferenceFinIdeal.main_arg6))).2.2.2.1 = (fun _ => 1#1)
    ∧ (Cert.Pre_pre_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4)) (m ((c.tc : Thread Cert.ReferenceFinIdeal.nD Cert.ReferenceFinIdeal.τ).loc Cert.ReferenceFinIdeal.main_arg5)) (m ((c.tc : Thread Cert.ReferenceFinIdeal.nD Cert.ReferenceFinIdeal.τ).loc Cert.ReferenceFinIdeal.main_arg6))).2.2.2.2.1 = (fun _ => 1#1)
    ∧ (Cert.Pre_pre_fin.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4)) (m ((c.tc : Thread Cert.ReferenceFinIdeal.nD Cert.ReferenceFinIdeal.τ).loc Cert.ReferenceFinIdeal.main_arg5)) (m ((c.tc : Thread Cert.ReferenceFinIdeal.nD Cert.ReferenceFinIdeal.τ).loc Cert.ReferenceFinIdeal.main_arg6))).2.2.2.2.2 = (fun _ => 1#1)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3))
      ∧ r.2.sem = fun _ => 0)

def quiescent_KernelFin [hKernelFin : Cert.KernelFin.Facts] : Prop :=
  ∀ (m : (ℓ : Loc Cert.KernelFin.nD Cert.KernelFin.τ Cert.KernelFin.sig) → Buf (Elt Bits) ℓ) (g : Dev Cert.KernelFin.nD → PrngReg), Pre_KernelFin m →
    θ_run (Cert.KernelFin.defs (F := Bits)) (onTc (τ := Cert.KernelFin.τ) (Cert.KernelFin.main (F := Bits))) ⟨m, fun _ => 0, g⟩ (fun r => (∀ c : Dev Cert.KernelFin.nD,
      r.2.mem ((c.tc : Thread Cert.KernelFin.nD Cert.KernelFin.τ).loc Cert.KernelFin.main_arg0) = m ((c.tc : Thread Cert.KernelFin.nD Cert.KernelFin.τ).loc Cert.KernelFin.main_arg0)
      ∧ r.2.mem ((c.tc : Thread Cert.KernelFin.nD Cert.KernelFin.τ).loc Cert.KernelFin.main_arg1) = m ((c.tc : Thread Cert.KernelFin.nD Cert.KernelFin.τ).loc Cert.KernelFin.main_arg1)
      ∧ r.2.mem ((c.tc : Thread Cert.KernelFin.nD Cert.KernelFin.τ).loc Cert.KernelFin.main_arg2) = m ((c.tc : Thread Cert.KernelFin.nD Cert.KernelFin.τ).loc Cert.KernelFin.main_arg2)
      ∧ r.2.mem ((c.tc : Thread Cert.KernelFin.nD Cert.KernelFin.τ).loc Cert.KernelFin.main_arg3) = m ((c.tc : Thread Cert.KernelFin.nD Cert.KernelFin.τ).loc Cert.KernelFin.main_arg3)
      ∧ r.2.mem ((c.tc : Thread Cert.KernelFin.nD Cert.KernelFin.τ).loc Cert.KernelFin.main_arg4) = m ((c.tc : Thread Cert.KernelFin.nD Cert.KernelFin.τ).loc Cert.KernelFin.main_arg4)
      ∧ r.2.mem ((c.tc : Thread Cert.KernelFin.nD Cert.KernelFin.τ).loc Cert.KernelFin.main_arg5) = m ((c.tc : Thread Cert.KernelFin.nD Cert.KernelFin.τ).loc Cert.KernelFin.main_arg5)
      ∧ r.2.mem ((c.tc : Thread Cert.KernelFin.nD Cert.KernelFin.τ).loc Cert.KernelFin.main_arg6) = m ((c.tc : Thread Cert.KernelFin.nD Cert.KernelFin.τ).loc Cert.KernelFin.main_arg6))
      ∧ r.2.sem = fun _ => 0)

def quiescent_KernelFinIdeal [hKernelFinIdeal : Cert.KernelFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
      ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
      ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
      ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4)
      ∧ r.2.mem ((c.tc : Thread Cert.KernelFinIdeal.nD Cert.KernelFinIdeal.τ).loc Cert.KernelFinIdeal.main_arg5) = m ((c.tc : Thread Cert.KernelFinIdeal.nD Cert.KernelFinIdeal.τ).loc Cert.KernelFinIdeal.main_arg5)
      ∧ r.2.mem ((c.tc : Thread Cert.KernelFinIdeal.nD Cert.KernelFinIdeal.τ).loc Cert.KernelFinIdeal.main_arg6) = m ((c.tc : Thread Cert.KernelFinIdeal.nD Cert.KernelFinIdeal.τ).loc Cert.KernelFinIdeal.main_arg6))
      ∧ r.2.sem = fun _ => 0)

def quiescent_KernelFinIdeal_pre_pre_fin [hKernelFinIdeal : Cert.KernelFinIdeal.Facts] [hPre_pre_fin : Cert.Pre_pre_fin.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal_pre_fin m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
      ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
      ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
      ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4)
      ∧ r.2.mem ((c.tc : Thread Cert.KernelFinIdeal.nD Cert.KernelFinIdeal.τ).loc Cert.KernelFinIdeal.main_arg5) = m ((c.tc : Thread Cert.KernelFinIdeal.nD Cert.KernelFinIdeal.τ).loc Cert.KernelFinIdeal.main_arg5)
      ∧ r.2.mem ((c.tc : Thread Cert.KernelFinIdeal.nD Cert.KernelFinIdeal.τ).loc Cert.KernelFinIdeal.main_arg6) = m ((c.tc : Thread Cert.KernelFinIdeal.nD Cert.KernelFinIdeal.τ).loc Cert.KernelFinIdeal.main_arg6))
      ∧ r.2.sem = fun _ => 0)

def quiescent_ReferenceFinIdeal [hReferenceFinIdeal : Cert.ReferenceFinIdeal.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1)
      ∧ r.2.mem ((c.tc : Thread Cert.ReferenceFinIdeal.nD Cert.ReferenceFinIdeal.τ).loc Cert.ReferenceFinIdeal.main_arg2) = m ((c.tc : Thread Cert.ReferenceFinIdeal.nD Cert.ReferenceFinIdeal.τ).loc Cert.ReferenceFinIdeal.main_arg2)
      ∧ r.2.mem ((c.tc : Thread Cert.ReferenceFinIdeal.nD Cert.ReferenceFinIdeal.τ).loc Cert.ReferenceFinIdeal.main_arg3) = m ((c.tc : Thread Cert.ReferenceFinIdeal.nD Cert.ReferenceFinIdeal.τ).loc Cert.ReferenceFinIdeal.main_arg3)
      ∧ r.2.mem ((c.tc : Thread Cert.ReferenceFinIdeal.nD Cert.ReferenceFinIdeal.τ).loc Cert.ReferenceFinIdeal.main_arg4) = m ((c.tc : Thread Cert.ReferenceFinIdeal.nD Cert.ReferenceFinIdeal.τ).loc Cert.ReferenceFinIdeal.main_arg4)
      ∧ r.2.mem ((c.tc : Thread Cert.ReferenceFinIdeal.nD Cert.ReferenceFinIdeal.τ).loc Cert.ReferenceFinIdeal.main_arg5) = m ((c.tc : Thread Cert.ReferenceFinIdeal.nD Cert.ReferenceFinIdeal.τ).loc Cert.ReferenceFinIdeal.main_arg5)
      ∧ r.2.mem ((c.tc : Thread Cert.ReferenceFinIdeal.nD Cert.ReferenceFinIdeal.τ).loc Cert.ReferenceFinIdeal.main_arg6) = m ((c.tc : Thread Cert.ReferenceFinIdeal.nD Cert.ReferenceFinIdeal.τ).loc Cert.ReferenceFinIdeal.main_arg6))
      ∧ r.2.sem = fun _ => 0)

def quiescent_ReferenceFinIdeal_pre_pre_fin [hReferenceFinIdeal : Cert.ReferenceFinIdeal.Facts] [hPre_pre_fin : Cert.Pre_pre_fin.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal_pre_fin m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1)
      ∧ r.2.mem ((c.tc : Thread Cert.ReferenceFinIdeal.nD Cert.ReferenceFinIdeal.τ).loc Cert.ReferenceFinIdeal.main_arg2) = m ((c.tc : Thread Cert.ReferenceFinIdeal.nD Cert.ReferenceFinIdeal.τ).loc Cert.ReferenceFinIdeal.main_arg2)
      ∧ r.2.mem ((c.tc : Thread Cert.ReferenceFinIdeal.nD Cert.ReferenceFinIdeal.τ).loc Cert.ReferenceFinIdeal.main_arg3) = m ((c.tc : Thread Cert.ReferenceFinIdeal.nD Cert.ReferenceFinIdeal.τ).loc Cert.ReferenceFinIdeal.main_arg3)
      ∧ r.2.mem ((c.tc : Thread Cert.ReferenceFinIdeal.nD Cert.ReferenceFinIdeal.τ).loc Cert.ReferenceFinIdeal.main_arg4) = m ((c.tc : Thread Cert.ReferenceFinIdeal.nD Cert.ReferenceFinIdeal.τ).loc Cert.ReferenceFinIdeal.main_arg4)
      ∧ r.2.mem ((c.tc : Thread Cert.ReferenceFinIdeal.nD Cert.ReferenceFinIdeal.τ).loc Cert.ReferenceFinIdeal.main_arg5) = m ((c.tc : Thread Cert.ReferenceFinIdeal.nD Cert.ReferenceFinIdeal.τ).loc Cert.ReferenceFinIdeal.main_arg5)
      ∧ r.2.mem ((c.tc : Thread Cert.ReferenceFinIdeal.nD Cert.ReferenceFinIdeal.τ).loc Cert.ReferenceFinIdeal.main_arg6) = m ((c.tc : Thread Cert.ReferenceFinIdeal.nD Cert.ReferenceFinIdeal.τ).loc Cert.ReferenceFinIdeal.main_arg6))
      ∧ r.2.sem = fun _ => 0)

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)) →
    ∃ (v0 : (c : Dev Cert.KernelDxIdeal.nD) → Buf (Elt Ideal) ((c.tc : Thread Cert.KernelDxIdeal.nD Cert.KernelDxIdeal.τ).loc Cert.KernelDxIdeal.main_v1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v1) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v4) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)
      ∧ m' ((c.tc : Thread Cert.ReferenceDwIdeal.nD Cert.ReferenceDwIdeal.τ).loc Cert.ReferenceDwIdeal.main_arg3) = m ((c.tc : Thread Cert.KernelDwIdeal.nD Cert.KernelDwIdeal.τ).loc Cert.KernelDwIdeal.main_arg3)) →
    ∃ (v0 : (c : Dev Cert.KernelDwIdeal.nD) → Buf (Elt Ideal) ((c.tc : Thread Cert.KernelDwIdeal.nD Cert.KernelDwIdeal.τ).loc Cert.KernelDwIdeal.main_v1)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v1) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v4) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2)
          ∧ r.2.mem ((c.tc : Thread Cert.ReferenceDwIdeal.nD Cert.ReferenceDwIdeal.τ).loc Cert.ReferenceDwIdeal.main_arg3) = m' ((c.tc : Thread Cert.ReferenceDwIdeal.nD Cert.ReferenceDwIdeal.τ).loc Cert.ReferenceDwIdeal.main_arg3))

def preserves_KernelFin_KernelFinIdeal : Prop :=
  True

def algebraic_KernelFinIdeal_ReferenceFinIdeal_pre_pre_fin [hKernelFinIdeal : Cert.KernelFinIdeal.Facts] [hReferenceFinIdeal : Cert.ReferenceFinIdeal.Facts] [hPre_pre_fin : Cert.Pre_pre_fin.Facts] : Prop :=
  ∀ (m : (ℓ : Loc Cert.KernelFinIdeal.nD Cert.KernelFinIdeal.τ Cert.KernelFinIdeal.sig) → Buf (Elt Ideal) ℓ) (g : Dev Cert.KernelFinIdeal.nD → PrngReg)
    (m' : (ℓ : Loc Cert.ReferenceFinIdeal.nD Cert.ReferenceFinIdeal.τ Cert.ReferenceFinIdeal.sig) → Buf (Elt Ideal) ℓ) (g' : Dev Cert.ReferenceFinIdeal.nD → PrngReg), Pre_KernelFinIdeal_pre_fin m →
    (∀ c : Dev Cert.KernelFinIdeal.nD,
      m' ((c.tc : Thread Cert.ReferenceFinIdeal.nD Cert.ReferenceFinIdeal.τ).loc Cert.ReferenceFinIdeal.main_arg0) = m ((c.tc : Thread Cert.KernelFinIdeal.nD Cert.KernelFinIdeal.τ).loc Cert.KernelFinIdeal.main_arg0)
      ∧ m' ((c.tc : Thread Cert.ReferenceFinIdeal.nD Cert.ReferenceFinIdeal.τ).loc Cert.ReferenceFinIdeal.main_arg1) = m ((c.tc : Thread Cert.KernelFinIdeal.nD Cert.KernelFinIdeal.τ).loc Cert.KernelFinIdeal.main_arg1)
      ∧ m' ((c.tc : Thread Cert.ReferenceFinIdeal.nD Cert.ReferenceFinIdeal.τ).loc Cert.ReferenceFinIdeal.main_arg2) = m ((c.tc : Thread Cert.KernelFinIdeal.nD Cert.KernelFinIdeal.τ).loc Cert.KernelFinIdeal.main_arg2)
      ∧ m' ((c.tc : Thread Cert.ReferenceFinIdeal.nD Cert.ReferenceFinIdeal.τ).loc Cert.ReferenceFinIdeal.main_arg3) = m ((c.tc : Thread Cert.KernelFinIdeal.nD Cert.KernelFinIdeal.τ).loc Cert.KernelFinIdeal.main_arg3)
      ∧ m' ((c.tc : Thread Cert.ReferenceFinIdeal.nD Cert.ReferenceFinIdeal.τ).loc Cert.ReferenceFinIdeal.main_arg4) = m ((c.tc : Thread Cert.KernelFinIdeal.nD Cert.KernelFinIdeal.τ).loc Cert.KernelFinIdeal.main_arg4)
      ∧ m' ((c.tc : Thread Cert.ReferenceFinIdeal.nD Cert.ReferenceFinIdeal.τ).loc Cert.ReferenceFinIdeal.main_arg5) = m ((c.tc : Thread Cert.KernelFinIdeal.nD Cert.KernelFinIdeal.τ).loc Cert.KernelFinIdeal.main_arg5)
      ∧ m' ((c.tc : Thread Cert.ReferenceFinIdeal.nD Cert.ReferenceFinIdeal.τ).loc Cert.ReferenceFinIdeal.main_arg6) = m ((c.tc : Thread Cert.KernelFinIdeal.nD Cert.KernelFinIdeal.τ).loc Cert.KernelFinIdeal.main_arg6)) →
    ∃ (v0 : (c : Dev Cert.KernelFinIdeal.nD) → Buf (Elt Ideal) ((c.tc : Thread Cert.KernelFinIdeal.nD Cert.KernelFinIdeal.τ).loc Cert.KernelFinIdeal.main_v0_0)) (v1 : (c : Dev Cert.KernelFinIdeal.nD) → Buf (Elt Ideal) ((c.tc : Thread Cert.KernelFinIdeal.nD Cert.KernelFinIdeal.τ).loc Cert.KernelFinIdeal.main_v0_1)) (v2 : (c : Dev Cert.KernelFinIdeal.nD) → Buf (Elt Ideal) ((c.tc : Thread Cert.KernelFinIdeal.nD Cert.KernelFinIdeal.τ).loc Cert.KernelFinIdeal.main_v0_2)),
      θ_run (Cert.KernelFinIdeal.defs (F := Ideal)) (onTc (τ := Cert.KernelFinIdeal.τ) (Cert.KernelFinIdeal.main (F := Ideal))) ⟨m, fun _ => 0, g⟩ (fun r => ∀ c : Dev Cert.KernelFinIdeal.nD,
          r.2.mem ((c.tc : Thread Cert.KernelFinIdeal.nD Cert.KernelFinIdeal.τ).loc Cert.KernelFinIdeal.main_v0_0) = v0 c
          ∧ r.2.mem ((c.tc : Thread Cert.KernelFinIdeal.nD Cert.KernelFinIdeal.τ).loc Cert.KernelFinIdeal.main_v0_1) = v1 c
          ∧ r.2.mem ((c.tc : Thread Cert.KernelFinIdeal.nD Cert.KernelFinIdeal.τ).loc Cert.KernelFinIdeal.main_v0_2) = v2 c
          ∧ r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
          ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
          ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
          ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
          ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4)
          ∧ r.2.mem ((c.tc : Thread Cert.KernelFinIdeal.nD Cert.KernelFinIdeal.τ).loc Cert.KernelFinIdeal.main_arg5) = m ((c.tc : Thread Cert.KernelFinIdeal.nD Cert.KernelFinIdeal.τ).loc Cert.KernelFinIdeal.main_arg5)
          ∧ r.2.mem ((c.tc : Thread Cert.KernelFinIdeal.nD Cert.KernelFinIdeal.τ).loc Cert.KernelFinIdeal.main_arg6) = m ((c.tc : Thread Cert.KernelFinIdeal.nD Cert.KernelFinIdeal.τ).loc Cert.KernelFinIdeal.main_arg6))
      ∧ θ_run (Cert.ReferenceFinIdeal.defs (F := Ideal)) (onTc (τ := Cert.ReferenceFinIdeal.τ) (Cert.ReferenceFinIdeal.main (F := Ideal))) ⟨m', fun _ => 0, g'⟩ (fun r => ∀ c : Dev Cert.ReferenceFinIdeal.nD,
          r.2.mem ((c.tc : Thread Cert.ReferenceFinIdeal.nD Cert.ReferenceFinIdeal.τ).loc Cert.ReferenceFinIdeal.main_v49_0) = v0 c
          ∧ r.2.mem ((c.tc : Thread Cert.ReferenceFinIdeal.nD Cert.ReferenceFinIdeal.τ).loc Cert.ReferenceFinIdeal.main_v49_1) = v1 c
          ∧ r.2.mem ((c.tc : Thread Cert.ReferenceFinIdeal.nD Cert.ReferenceFinIdeal.τ).loc Cert.ReferenceFinIdeal.main_v49_2) = v2 c
          ∧ r.2.mem ((c.tc : Thread Cert.ReferenceFinIdeal.nD Cert.ReferenceFinIdeal.τ).loc Cert.ReferenceFinIdeal.main_arg0) = m' ((c.tc : Thread Cert.ReferenceFinIdeal.nD Cert.ReferenceFinIdeal.τ).loc Cert.ReferenceFinIdeal.main_arg0)
          ∧ r.2.mem ((c.tc : Thread Cert.ReferenceFinIdeal.nD Cert.ReferenceFinIdeal.τ).loc Cert.ReferenceFinIdeal.main_arg1) = m' ((c.tc : Thread Cert.ReferenceFinIdeal.nD Cert.ReferenceFinIdeal.τ).loc Cert.ReferenceFinIdeal.main_arg1)
          ∧ r.2.mem ((c.tc : Thread Cert.ReferenceFinIdeal.nD Cert.ReferenceFinIdeal.τ).loc Cert.ReferenceFinIdeal.main_arg2) = m' ((c.tc : Thread Cert.ReferenceFinIdeal.nD Cert.ReferenceFinIdeal.τ).loc Cert.ReferenceFinIdeal.main_arg2)
          ∧ r.2.mem ((c.tc : Thread Cert.ReferenceFinIdeal.nD Cert.ReferenceFinIdeal.τ).loc Cert.ReferenceFinIdeal.main_arg3) = m' ((c.tc : Thread Cert.ReferenceFinIdeal.nD Cert.ReferenceFinIdeal.τ).loc Cert.ReferenceFinIdeal.main_arg3)
          ∧ r.2.mem ((c.tc : Thread Cert.ReferenceFinIdeal.nD Cert.ReferenceFinIdeal.τ).loc Cert.ReferenceFinIdeal.main_arg4) = m' ((c.tc : Thread Cert.ReferenceFinIdeal.nD Cert.ReferenceFinIdeal.τ).loc Cert.ReferenceFinIdeal.main_arg4)
          ∧ r.2.mem ((c.tc : Thread Cert.ReferenceFinIdeal.nD Cert.ReferenceFinIdeal.τ).loc Cert.ReferenceFinIdeal.main_arg5) = m' ((c.tc : Thread Cert.ReferenceFinIdeal.nD Cert.ReferenceFinIdeal.τ).loc Cert.ReferenceFinIdeal.main_arg5)
          ∧ r.2.mem ((c.tc : Thread Cert.ReferenceFinIdeal.nD Cert.ReferenceFinIdeal.τ).loc Cert.ReferenceFinIdeal.main_arg6) = m' ((c.tc : Thread Cert.ReferenceFinIdeal.nD Cert.ReferenceFinIdeal.τ).loc Cert.ReferenceFinIdeal.main_arg6))

def Claim : Prop :=
  ∃ (hKernelDx : Cert.KernelDx.Facts) (hKernelDxIdeal : Cert.KernelDxIdeal.Facts) (hReferenceDxIdeal : Cert.ReferenceDxIdeal.Facts) (hKernelDw : Cert.KernelDw.Facts) (hKernelDwIdeal : Cert.KernelDwIdeal.Facts) (hReferenceDwIdeal : Cert.ReferenceDwIdeal.Facts) (hKernelFin : Cert.KernelFin.Facts) (hKernelFinIdeal : Cert.KernelFinIdeal.Facts) (hReferenceFinIdeal : Cert.ReferenceFinIdeal.Facts) (hPre_pre_fin : Cert.Pre_pre_fin.Facts),
    quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelFin (hKernelFin := hKernelFin)
    ∧ quiescent_KernelFinIdeal (hKernelFinIdeal := hKernelFinIdeal)
    ∧ quiescent_KernelFinIdeal_pre_pre_fin (hKernelFinIdeal := hKernelFinIdeal) (hPre_pre_fin := hPre_pre_fin)
    ∧ quiescent_ReferenceFinIdeal (hReferenceFinIdeal := hReferenceFinIdeal)
    ∧ quiescent_ReferenceFinIdeal_pre_pre_fin (hReferenceFinIdeal := hReferenceFinIdeal) (hPre_pre_fin := hPre_pre_fin)
    ∧ preserves_KernelDx_KernelDxIdeal
    ∧ algebraic_KernelDxIdeal_ReferenceDxIdeal (hKernelDxIdeal := hKernelDxIdeal) (hReferenceDxIdeal := hReferenceDxIdeal)
    ∧ preserves_KernelDw_KernelDwIdeal
    ∧ algebraic_KernelDwIdeal_ReferenceDwIdeal (hKernelDwIdeal := hKernelDwIdeal) (hReferenceDwIdeal := hReferenceDwIdeal)
    ∧ preserves_KernelFin_KernelFinIdeal
    ∧ algebraic_KernelFinIdeal_ReferenceFinIdeal_pre_pre_fin (hKernelFinIdeal := hKernelFinIdeal) (hReferenceFinIdeal := hReferenceFinIdeal) (hPre_pre_fin := hPre_pre_fin)
-- ==== Pre_pre_fin.lean ====
abbrev S10x12800x128 : Shape := ⟨3, ![10, 12800, 128]⟩
abbrev S10x12800 : Shape := ⟨2, ![10, 12800]⟩
abbrev S30x10x2560 : Shape := ⟨3, ![30, 10, 2560]⟩
abbrev S10x128 : Shape := ⟨2, ![10, 128]⟩
abbrev S_ : Shape := ⟨0, ![]⟩

class Facts : Prop where
  bcast_S_S10x12800x128 : S_.BroadcastsInDim S10x12800x128 (![] : Fin 0 → Fin S10x12800x128.rank)
  bcast_S_S10x12800 : S_.BroadcastsInDim S10x12800 (![] : Fin 0 → Fin S10x12800.rank)
  bcast_S_S30x10x2560 : S_.BroadcastsInDim S30x10x2560 (![] : Fin 0 → Fin S30x10x2560.rank)
  bcast_S_S10x128 : S_.BroadcastsInDim S10x128 (![] : Fin 0 → Fin S10x128.rank)

variable [Facts]

def fn {F : FTy → Type} [FloatOps F] (main_arg0 : FVec F S10x12800x128 .f32) (main_arg1 : FVec F S10x12800x128 .fp8e4m3) (main_arg2 : FVec F S10x12800 .f32) (main_arg3 : FVec F S30x10x2560 .f32) (main_arg4 : FVec F S30x10x2560 .f32) (main_arg5 : FVec F S10x128 .f32) (main_arg6 : FVec F S10x128 .f32) : IVec S10x12800x128 1 × IVec S10x12800 1 × IVec S30x10x2560 1 × IVec S30x10x2560 1 × IVec S10x128 1 × IVec S10x128 1 :=
  let main_v0 : FVec F S10x12800x128 .f32 := Host.absf main_arg0
  let main_cst : FVec F S_ .f32 := constant S_ .f32 0x7B800000#32
  let main_v1 : FVec F S10x12800x128 .f32 := broadcastInDim S10x12800x128 ![] bcast_S_S10x12800x128 main_cst
  let main_v2 : IVec S10x12800x128 1 := cmpf .olt main_v0 main_v1
  let main_v3 : FVec F S10x12800 .f32 := Host.absf main_arg2
  let main_cst_0 : FVec F S_ .f32 := constant S_ .f32 0x7F800000#32
  let main_v4 : FVec F S10x12800 .f32 := broadcastInDim S10x12800 ![] bcast_S_S10x12800 main_cst_0
  let main_v5 : IVec S10x12800 1 := cmpf .olt main_v3 main_v4
  let main_v6 : FVec F S30x10x2560 .f32 := Host.absf main_arg3
  let main_cst_1 : FVec F S_ .f32 := constant S_ .f32 0x5C800000#32
  let main_v7 : FVec F S30x10x2560 .f32 := broadcastInDim S30x10x2560 ![] bcast_S_S30x10x2560 main_cst_1
  let main_v8 : IVec S30x10x2560 1 := cmpf .olt main_v6 main_v7
  let main_v9 : FVec F S30x10x2560 .f32 := Host.absf main_arg4
  let main_cst_2 : FVec F S_ .f32 := constant S_ .f32 0x5C800000#32
  let main_v10 : FVec F S30x10x2560 .f32 := broadcastInDim S30x10x2560 ![] bcast_S_S30x10x2560 main_cst_2
  let main_v11 : IVec S30x10x2560 1 := cmpf .olt main_v9 main_v10
  let main_v12 : FVec F S10x128 .f32 := Host.absf main_arg5
  let main_cst_3 : FVec F S_ .f32 := constant S_ .f32 0x5D800000#32
  let main_v13 : FVec F S10x128 .f32 := broadcastInDim S10x128 ![] bcast_S_S10x128 main_cst_3
  let main_v14 : IVec S10x128 1 := cmpf .olt main_v12 main_v13
  let main_v15 : FVec F S10x128 .f32 := Host.absf main_arg6
  let main_cst_4 : FVec F S_ .f32 := constant S_ .f32 0x5D800000#32
  let main_v16 : FVec F S10x128 .f32 := broadcastInDim S10x128 ![] bcast_S_S10x128 main_cst_4
  let main_v17 : IVec S10x128 1 := cmpf .olt main_v15 main_v16
  (main_v2, main_v5, main_v8, main_v11, main_v14, main_v17)
-- ==== KernelDx.lean ====
abbrev S12800x1280 : Shape := ⟨2, ![12800, 1280]⟩
abbrev S8x12800 : Shape := ⟨2, ![8, 12800]⟩
abbrev S5120x1280 : Shape := ⟨2, ![5120, 1280]⟩
abbrev S5120 : Shape := ⟨1, ![5120]⟩
abbrev S1x5120 : Shape := ⟨2, ![1, 5120]⟩
abbrev S12800x5120 : Shape := ⟨2, ![12800, 5120]⟩
abbrev S1280x1280 : Shape := ⟨2, ![1280, 1280]⟩
abbrev S8x1280 : Shape := ⟨2, ![8, 1280]⟩
abbrev S1280x5120 : Shape := ⟨2, ![1280, 5120]⟩
abbrev S1x1280 : Shape := ⟨2, ![1, 1280]⟩
abbrev S1x128 : Shape := ⟨2, ![1, 128]⟩
abbrev S128x128 : Shape := ⟨2, ![128, 128]⟩
abbrev S1280x128 : Shape := ⟨2, ![1280, 128]⟩
abbrev S256x1280 : Shape := ⟨2, ![256, 1280]⟩
abbrev S256x256 : Shape := ⟨2, ![256, 256]⟩
abbrev S256x128 : Shape := ⟨2, ![256, 128]⟩

abbrev nBuf : Space → Nat
  | .hbm => 6
  | .vmem => 8
  | .smem => 0
  | _ => 0

abbrev bufTy : (tb : Table) → Fin (tcTables nBuf tb) → BufTy
  | .hbm, ⟨0, _⟩ => ⟨S12800x1280, .fp8e5m2⟩
  | .hbm, ⟨1, _⟩ => ⟨S8x12800, .f32⟩
  | .hbm, ⟨2, _⟩ => ⟨S5120x1280, .fp8e4m3⟩
  | .hbm, ⟨3, _⟩ => ⟨S5120, .f32⟩
  | .hbm, ⟨4, _⟩ => ⟨S1x5120, .f32⟩
  | .hbm, ⟨5, _⟩ => ⟨S12800x5120, .bf16⟩
  | .local _ .vmem, ⟨0, _⟩ => ⟨S1280x1280, .fp8e5m2⟩
  | .local _ .vmem, ⟨1, _⟩ => ⟨S1280x1280, .fp8e5m2⟩
  | .local _ .vmem, ⟨2, _⟩ => ⟨S8x1280, .f32⟩
  | .local _ .vmem, ⟨3, _⟩ => ⟨S8x1280, .f32⟩
  | .local _ .vmem, ⟨4, _⟩ => ⟨S5120x1280, .fp8e4m3⟩
  | .local _ .vmem, ⟨5, _⟩ => ⟨S1x5120, .f32⟩
  | .local _ .vmem, ⟨6, _⟩ => ⟨S1280x5120, .bf16⟩
  | .local _ .vmem, ⟨7, _⟩ => ⟨S1280x5120, .bf16⟩
  | _, _ => ⟨S12800x1280, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x1280 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDxIdeal.lean ====
abbrev S12800x1280 : Shape := ⟨2, ![12800, 1280]⟩
abbrev S8x12800 : Shape := ⟨2, ![8, 12800]⟩
abbrev S5120x1280 : Shape := ⟨2, ![5120, 1280]⟩
abbrev S5120 : Shape := ⟨1, ![5120]⟩
abbrev S1x12800 : Shape := ⟨2, ![1, 12800]⟩
abbrev S12800 : Shape := ⟨1, ![12800]⟩
abbrev S12800x1 : Shape := ⟨2, ![12800, 1]⟩
abbrev S1x5120 : Shape := ⟨2, ![1, 5120]⟩
abbrev S12800x5120 : Shape := ⟨2, ![12800, 5120]⟩

abbrev nBuf : Space → Nat
  | .hbm => 9
  | .vmem => 5
  | .smem => 0
  | _ => 0

abbrev bufTy : (tb : Table) → Fin (tcTables nBuf tb) → BufTy
  | .hbm, ⟨0, _⟩ => ⟨S12800x1280, .fp8e5m2⟩
  | .hbm, ⟨1, _⟩ => ⟨S8x12800, .f32⟩
  | .hbm, ⟨2, _⟩ => ⟨S5120x1280, .fp8e4m3⟩
  | .hbm, ⟨3, _⟩ => ⟨S5120, .f32⟩
  | .hbm, ⟨4, _⟩ => ⟨S1x12800, .f32⟩
  | .hbm, ⟨5, _⟩ => ⟨S12800, .f32⟩
  | .hbm, ⟨6, _⟩ => ⟨S12800x1, .f32⟩
  | .hbm, ⟨7, _⟩ => ⟨S1x5120, .f32⟩
  | .hbm, ⟨8, _⟩ => ⟨S12800x5120, .bf16⟩
  | .local _ .vmem, ⟨0, _⟩ => ⟨S12800x1280, .fp8e5m2⟩
  | .local _ .vmem, ⟨1, _⟩ => ⟨S12800x1, .f32⟩
  | .local _ .vmem, ⟨2, _⟩ => ⟨S5120x1280, .fp8e4m3⟩
  | .local _ .vmem, ⟨3, _⟩ => ⟨S1x5120, .f32⟩
  | .local _ .vmem, ⟨4, _⟩ => ⟨S12800x5120, .bf16⟩
  | _, _ => ⟨S12800x1280, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12800x1280 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12800x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12800x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDw.lean ====
abbrev S12800x5120 : Shape := ⟨2, ![12800, 5120]⟩
abbrev S12800 : Shape := ⟨1, ![12800]⟩
abbrev S12800x1280 : Shape := ⟨2, ![12800, 1280]⟩
abbrev S8x12800 : Shape := ⟨2, ![8, 12800]⟩
abbrev S1x12800 : Shape := ⟨2, ![1, 12800]⟩
abbrev S5120x1280 : Shape := ⟨2, ![5120, 1280]⟩
abbrev S2560x1280 : Shape := ⟨2, ![2560, 1280]⟩
abbrev S1x2560 : Shape := ⟨2, ![1, 2560]⟩
abbrev S8x2560 : Shape := ⟨2, ![8, 2560]⟩
abbrev S1280x1280 : Shape := ⟨2, ![1280, 1280]⟩
abbrev S1x128 : Shape := ⟨2, ![1, 128]⟩
abbrev S128x128 : Shape := ⟨2, ![128, 128]⟩
abbrev S2560x128 : Shape := ⟨2, ![2560, 128]⟩
abbrev S2560x256 : Shape := ⟨2, ![2560, 256]⟩
abbrev S256x1280 : Shape := ⟨2, ![256, 1280]⟩
abbrev S256x2560 : Shape := ⟨2, ![256, 2560]⟩

abbrev nBuf : Space → Nat
  | .hbm => 6
  | .vmem => 11
  | .smem => 0
  | _ => 0

abbrev bufTy : (tb : Table) → Fin (tcTables nBuf tb) → BufTy
  | .hbm, ⟨0, _⟩ => ⟨S12800x5120, .fp8e4m3⟩
  | .hbm, ⟨1, _⟩ => ⟨S12800, .f32⟩
  | .hbm, ⟨2, _⟩ => ⟨S12800x1280, .fp8e5m2⟩
  | .hbm, ⟨3, _⟩ => ⟨S8x12800, .f32⟩
  | .hbm, ⟨4, _⟩ => ⟨S1x12800, .f32⟩
  | .hbm, ⟨5, _⟩ => ⟨S5120x1280, .f32⟩
  | .local _ .vmem, ⟨0, _⟩ => ⟨S2560x1280, .fp8e4m3⟩
  | .local _ .vmem, ⟨1, _⟩ => ⟨S2560x1280, .fp8e4m3⟩
  | .local _ .vmem, ⟨2, _⟩ => ⟨S1x2560, .f32⟩
  | .local _ .vmem, ⟨3, _⟩ => ⟨S1x2560, .f32⟩
  | .local _ .vmem, ⟨4, _⟩ => ⟨S2560x1280, .fp8e5m2⟩
  | .local _ .vmem, ⟨5, _⟩ => ⟨S2560x1280, .fp8e5m2⟩
  | .local _ .vmem, ⟨6, _⟩ => ⟨S8x2560, .f32⟩
  | .local _ .vmem, ⟨7, _⟩ => ⟨S8x2560, .f32⟩
  | .local _ .vmem, ⟨8, _⟩ => ⟨S1280x1280, .f32⟩
  | .local _ .vmem, ⟨9, _⟩ => ⟨S1280x1280, .f32⟩
  | .local _ .vmem, ⟨10, _⟩ => ⟨S2560x1280, .bf16⟩
  | _, _ => ⟨S12800x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2560x1280 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x1280 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceDwIdeal.lean ====
abbrev S12800x5120 : Shape := ⟨2, ![12800, 5120]⟩
abbrev S12800 : Shape := ⟨1, ![12800]⟩
abbrev S12800x1280 : Shape := ⟨2, ![12800, 1280]⟩
abbrev S8x12800 : Shape := ⟨2, ![8, 12800]⟩
abbrev S1x12800 : Shape := ⟨2, ![1, 12800]⟩
abbrev S12800x1 : Shape := ⟨2, ![12800, 1]⟩
abbrev S5120x1280 : Shape := ⟨2, ![5120, 1280]⟩

abbrev nBuf : Space → Nat
  | .hbm => 9
  | .vmem => 5
  | .smem => 0
  | _ => 0

abbrev bufTy : (tb : Table) → Fin (tcTables nBuf tb) → BufTy
  | .hbm, ⟨0, _⟩ => ⟨S12800x5120, .fp8e4m3⟩
  | .hbm, ⟨1, _⟩ => ⟨S12800, .f32⟩
  | .hbm, ⟨2, _⟩ => ⟨S12800x1280, .fp8e5m2⟩
  | .hbm, ⟨3, _⟩ => ⟨S8x12800, .f32⟩
  | .hbm, ⟨4, _⟩ => ⟨S1x12800, .f32⟩
  | .hbm, ⟨5, _⟩ => ⟨S12800, .f32⟩
  | .hbm, ⟨6, _⟩ => ⟨S12800x1, .f32⟩
  | .hbm, ⟨7, _⟩ => ⟨S12800x1, .f32⟩
  | .hbm, ⟨8, _⟩ => ⟨S5120x1280, .f32⟩
  | .local _ .vmem, ⟨0, _⟩ => ⟨S12800x5120, .fp8e4m3⟩
  | .local _ .vmem, ⟨1, _⟩ => ⟨S12800x1, .f32⟩
  | .local _ .vmem, ⟨2, _⟩ => ⟨S12800x1280, .fp8e5m2⟩
  | .local _ .vmem, ⟨3, _⟩ => ⟨S12800x1, .f32⟩
  | .local _ .vmem, ⟨4, _⟩ => ⟨S5120x1280, .f32⟩
  | _, _ => ⟨S12800x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12800x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12800x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12800x1280 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12800x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelFin.lean ====
abbrev S10x12800x128 : Shape := ⟨3, ![10, 12800, 128]⟩
abbrev S10x12800 : Shape := ⟨2, ![10, 12800]⟩
abbrev S30x10x2560 : Shape := ⟨3, ![30, 10, 2560]⟩
abbrev S10x128 : Shape := ⟨2, ![10, 128]⟩
abbrev S12800x1280 : Shape := ⟨2, ![12800, 1280]⟩
abbrev S8x12800 : Shape := ⟨2, ![8, 12800]⟩
abbrev S2x10x128 : Shape := ⟨3, ![2, 10, 128]⟩
abbrev S10x1280x128 : Shape := ⟨3, ![10, 1280, 128]⟩
abbrev S10x1280 : Shape := ⟨2, ![10, 1280]⟩
abbrev S6x10x1280 : Shape := ⟨3, ![6, 10, 1280]⟩
abbrev S1280x1280 : Shape := ⟨2, ![1280, 1280]⟩
abbrev S8x1280 : Shape := ⟨2, ![8, 1280]⟩
abbrev S160x1280 : Shape := ⟨2, ![160, 1280]⟩
abbrev S10x8x128 : Shape := ⟨3, ![10, 8, 128]⟩
abbrev S1x128 : Shape := ⟨2, ![1, 128]⟩
abbrev S16x128 : Shape := ⟨2, ![16, 128]⟩
abbrev S1x10x1280 : Shape := ⟨3, ![1, 10, 1280]⟩
abbrev S1x1280 : Shape := ⟨2, ![1, 1280]⟩
abbrev S1x8x128 : Shape := ⟨3, ![1, 8, 128]⟩
abbrev S8x128 : Shape := ⟨2, ![8, 128]⟩
abbrev S1x1280x128 : Shape := ⟨3, ![1, 1280, 128]⟩
abbrev S1280x128 : Shape := ⟨2, ![1280, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩

abbrev nBuf : Space → Nat
  | .hbm => 10
  | .vmem => 19
  | .smem => 0
  | _ => 0

abbrev bufTy : (tb : Table) → Fin (tcTables nBuf tb) → BufTy
  | .hbm, ⟨0, _⟩ => ⟨S10x12800x128, .f32⟩
  | .hbm, ⟨1, _⟩ => ⟨S10x12800x128, .fp8e4m3⟩
  | .hbm, ⟨2, _⟩ => ⟨S10x12800, .f32⟩
  | .hbm, ⟨3, _⟩ => ⟨S30x10x2560, .f32⟩
  | .hbm, ⟨4, _⟩ => ⟨S30x10x2560, .f32⟩
  | .hbm, ⟨5, _⟩ => ⟨S10x128, .f32⟩
  | .hbm, ⟨6, _⟩ => ⟨S10x128, .f32⟩
  | .hbm, ⟨7, _⟩ => ⟨S12800x1280, .fp8e5m2⟩
  | .hbm, ⟨8, _⟩ => ⟨S8x12800, .f32⟩
  | .hbm, ⟨9, _⟩ => ⟨S2x10x128, .f32⟩
  | .local _ .vmem, ⟨0, _⟩ => ⟨S10x1280x128, .f32⟩
  | .local _ .vmem, ⟨1, _⟩ => ⟨S10x1280x128, .f32⟩
  | .local _ .vmem, ⟨2, _⟩ => ⟨S10x1280x128, .fp8e4m3⟩
  | .local _ .vmem, ⟨3, _⟩ => ⟨S10x1280x128, .fp8e4m3⟩
  | .local _ .vmem, ⟨4, _⟩ => ⟨S10x1280, .f32⟩
  | .local _ .vmem, ⟨5, _⟩ => ⟨S10x1280, .f32⟩
  | .local _ .vmem, ⟨6, _⟩ => ⟨S6x10x1280, .f32⟩
  | .local _ .vmem, ⟨7, _⟩ => ⟨S6x10x1280, .f32⟩
  | .local _ .vmem, ⟨8, _⟩ => ⟨S6x10x1280, .f32⟩
  | .local _ .vmem, ⟨9, _⟩ => ⟨S6x10x1280, .f32⟩
  | .local _ .vmem, ⟨10, _⟩ => ⟨S10x128, .f32⟩
  | .local _ .vmem, ⟨11, _⟩ => ⟨S10x128, .f32⟩
  | .local _ .vmem, ⟨12, _⟩ => ⟨S1280x1280, .fp8e5m2⟩
  | .local _ .vmem, ⟨13, _⟩ => ⟨S1280x1280, .fp8e5m2⟩
  | .local _ .vmem, ⟨14, _⟩ => ⟨S8x1280, .f32⟩
  | .local _ .vmem, ⟨15, _⟩ => ⟨S8x1280, .f32⟩
  | .local _ .vmem, ⟨16, _⟩ => ⟨S2x10x128, .f32⟩
  | .local _ .vmem, ⟨17, _⟩ => ⟨S160x1280, .f32⟩
  | .local _ .vmem, ⟨18, _⟩ => ⟨S10x8x128, .f32⟩
  | _, _ => ⟨S10x12800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v2742 : BitVec 1 := Scalar.cmpi .eq arg0 c9_i32
  let v2743 : BitVec 32 := Scalar.extui v2742
  let c0_i32_1109 : BitVec 32 := 0#32
  let v2744 : BitVec 1 := Scalar.cmpi .ne v2743 c0_i32_1109
  v2744

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S10x1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x1280x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x10x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x10x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1280x1280 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x10x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceFinIdeal.lean ====
abbrev S10x12800x128 : Shape := ⟨3, ![10, 12800, 128]⟩
abbrev S10x12800 : Shape := ⟨2, ![10, 12800]⟩
abbrev S30x10x2560 : Shape := ⟨3, ![30, 10, 2560]⟩
abbrev S10x128 : Shape := ⟨2, ![10, 128]⟩
abbrev S5x6x10x2560 : Shape := ⟨4, ![5, 6, 10, 2560]⟩
abbrev S_ : Shape := ⟨0, ![]⟩
abbrev S5x10x2560 : Shape := ⟨3, ![5, 10, 2560]⟩
abbrev S5x2560x10 : Shape := ⟨3, ![5, 2560, 10]⟩
abbrev S12800x10 : Shape := ⟨2, ![12800, 10]⟩
abbrev S12800x10x128 : Shape := ⟨3, ![12800, 10, 128]⟩
abbrev S12800x10x1 : Shape := ⟨3, ![12800, 10, 1]⟩
abbrev S1x10x128 : Shape := ⟨3, ![1, 10, 128]⟩
abbrev S12800x1280 : Shape := ⟨2, ![12800, 1280]⟩
abbrev S12800 : Shape := ⟨1, ![12800]⟩
abbrev S254 : Shape := ⟨1, ![254]⟩
abbrev S12800x1 : Shape := ⟨2, ![12800, 1]⟩
abbrev S1x254 : Shape := ⟨2, ![1, 254]⟩
abbrev S12800x254 : Shape := ⟨2, ![12800, 254]⟩
abbrev S1x12800 : Shape := ⟨2, ![1, 12800]⟩
abbrev S10x12800x1 : Shape := ⟨3, ![10, 12800, 1]⟩
abbrev S8x12800 : Shape := ⟨2, ![8, 12800]⟩
abbrev S2x10x128 : Shape := ⟨3, ![2, 10, 128]⟩

abbrev nBuf : Space → Nat
  | .hbm => 74
  | .vmem => 10
  | .smem => 0
  | _ => 0

abbrev bufTy : (tb : Table) → Fin (tcTables nBuf tb) → BufTy
  | .hbm, ⟨0, _⟩ => ⟨S10x12800x128, .f32⟩
  | .hbm, ⟨1, _⟩ => ⟨S10x12800x128, .fp8e4m3⟩
  | .hbm, ⟨2, _⟩ => ⟨S10x12800, .f32⟩
  | .hbm, ⟨3, _⟩ => ⟨S30x10x2560, .f32⟩
  | .hbm, ⟨4, _⟩ => ⟨S30x10x2560, .f32⟩
  | .hbm, ⟨5, _⟩ => ⟨S10x128, .f32⟩
  | .hbm, ⟨6, _⟩ => ⟨S10x128, .f32⟩
  | .hbm, ⟨7, _⟩ => ⟨S5x6x10x2560, .f32⟩
  | .hbm, ⟨8, _⟩ => ⟨S_, .f32⟩
  | .hbm, ⟨9, _⟩ => ⟨S5x10x2560, .f32⟩
  | .hbm, ⟨10, _⟩ => ⟨S5x2560x10, .f32⟩
  | .hbm, ⟨11, _⟩ => ⟨S12800x10, .f32⟩
  | .hbm, ⟨12, _⟩ => ⟨S5x6x10x2560, .f32⟩
  | .hbm, ⟨13, _⟩ => ⟨S_, .f32⟩
  | .hbm, ⟨14, _⟩ => ⟨S5x10x2560, .f32⟩
  | .hbm, ⟨15, _⟩ => ⟨S5x2560x10, .f32⟩
  | .hbm, ⟨16, _⟩ => ⟨S12800x10, .f32⟩
  | .hbm, ⟨17, _⟩ => ⟨S12800x10x128, .f32⟩
  | .hbm, ⟨18, _⟩ => ⟨S12800x10x1, .f32⟩
  | .hbm, ⟨19, _⟩ => ⟨S1x10x128, .f32⟩
  | .hbm, ⟨20, _⟩ => ⟨S12800x10x128, .f32⟩
  | .hbm, ⟨21, _⟩ => ⟨S12800x10x128, .f32⟩
  | .hbm, ⟨22, _⟩ => ⟨S12800x10x128, .f32⟩
  | .hbm, ⟨23, _⟩ => ⟨S12800x10x128, .f32⟩
  | .hbm, ⟨24, _⟩ => ⟨S12800x10x1, .f32⟩
  | .hbm, ⟨25, _⟩ => ⟨S1x10x128, .f32⟩
  | .hbm, ⟨26, _⟩ => ⟨S12800x10x128, .f32⟩
  | .hbm, ⟨27, _⟩ => ⟨S12800x10x128, .f32⟩
  | .hbm, ⟨28, _⟩ => ⟨S12800x10x128, .f32⟩
  | .hbm, ⟨29, _⟩ => ⟨S12800x10x128, .f32⟩
  | .hbm, ⟨30, _⟩ => ⟨S12800x1280, .f32⟩
  | .hbm, ⟨31, _⟩ => ⟨S12800x1280, .f32⟩
  | .hbm, ⟨32, _⟩ => ⟨S_, .f32⟩
  | .hbm, ⟨33, _⟩ => ⟨S12800, .f32⟩
  | .hbm, ⟨34, _⟩ => ⟨S_, .f32⟩
  | .hbm, ⟨35, _⟩ => ⟨S12800, .f32⟩
  | .hbm, ⟨36, _⟩ => ⟨S12800, .f32⟩
  | .hbm, ⟨37, _⟩ => ⟨S_, .f32⟩
  | .hbm, ⟨38, _⟩ => ⟨S254, .f32⟩
  | .hbm, ⟨39, _⟩ => ⟨S254, .i32⟩
  | .hbm, ⟨40, _⟩ => ⟨S_, .i32⟩
  | .hbm, ⟨41, _⟩ => ⟨S254, .i32⟩
  | .hbm, ⟨42, _⟩ => ⟨S254, .i32⟩
  | .hbm, ⟨43, _⟩ => ⟨S254, .f32⟩
  | .hbm, ⟨44, _⟩ => ⟨S254, .f32⟩
  | .hbm, ⟨45, _⟩ => ⟨S12800x1, .f32⟩
  | .hbm, ⟨46, _⟩ => ⟨S1x254, .f32⟩
  | .hbm, ⟨47, _⟩ => ⟨S12800x254, .f32⟩
  | .hbm, ⟨48, _⟩ => ⟨S12800x254, .f32⟩
  | .hbm, ⟨49, _⟩ => ⟨S12800x254, .i1⟩
  | .hbm, ⟨50, _⟩ => ⟨S_, .f32⟩
  | .hbm, ⟨51, _⟩ => ⟨S_, .f32⟩
  | .hbm, ⟨52, _⟩ => ⟨S12800x254, .f32⟩
  | .hbm, ⟨53, _⟩ => ⟨S12800x254, .f32⟩
  | .hbm, ⟨54, _⟩ => ⟨S12800x254, .f32⟩
  | .hbm, ⟨55, _⟩ => ⟨S_, .f32⟩
  | .hbm, ⟨56, _⟩ => ⟨S12800, .f32⟩
  | .hbm, ⟨57, _⟩ => ⟨S_, .f32⟩
  | .hbm, ⟨58, _⟩ => ⟨S12800, .f32⟩
  | .hbm, ⟨59, _⟩ => ⟨S12800, .i1⟩
  | .hbm, ⟨60, _⟩ => ⟨S_, .f32⟩
  | .hbm, ⟨61, _⟩ => ⟨S_, .f32⟩
  | .hbm, ⟨62, _⟩ => ⟨S12800, .f32⟩
  | .hbm, ⟨63, _⟩ => ⟨S12800, .f32⟩
  | .hbm, ⟨64, _⟩ => ⟨S12800x1, .f32⟩
  | .hbm, ⟨65, _⟩ => ⟨S1x12800, .f32⟩
  | .hbm, ⟨66, _⟩ => ⟨S10x12800x1, .f32⟩
  | .hbm, ⟨67, _⟩ => ⟨S10x12800, .f32⟩
  | .hbm, ⟨68, _⟩ => ⟨S10x12800x1, .f32⟩
  | .hbm, ⟨69, _⟩ => ⟨S10x12800, .f32⟩
  | .hbm, ⟨70, _⟩ => ⟨S10x12800x1, .f32⟩
  | .hbm, ⟨71, _⟩ => ⟨S12800x1280, .fp8e5m2⟩
  | .hbm, ⟨72, _⟩ => ⟨S8x12800, .f32⟩
  | .hbm, ⟨73, _⟩ => ⟨S2x10x128, .f32⟩
  | .local _ .vmem, ⟨0, _⟩ => ⟨S12800x1280, .f32⟩
  | .local _ .vmem, ⟨1, _⟩ => ⟨S12800x1, .f32⟩
  | .local _ .vmem, ⟨2, _⟩ => ⟨S1x12800, .f32⟩
  | .local _ .vmem, ⟨3, _⟩ => ⟨S10x12800x128, .fp8e4m3⟩
  | .local _ .vmem, ⟨4, _⟩ => ⟨S10x12800x1, .f32⟩
  | .local _ .vmem, ⟨5, _⟩ => ⟨S10x12800x1, .f32⟩
  | .local _ .vmem, ⟨6, _⟩ => ⟨S10x12800x1, .f32⟩
  | .local _ .vmem, ⟨7, _⟩ => ⟨S12800x1280, .fp8e5m2⟩
  | .local _ .vmem, ⟨8, _⟩ => ⟨S8x12800, .f32⟩
  | .local _ .vmem, ⟨9, _⟩ => ⟨S2x10x128, .f32⟩
  | _, _ => ⟨S10x12800x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12800x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12800x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x12800x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x12800x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x12800x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x12800x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12800x1280 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x12800 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x10x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Spec.lean ====
/-
  The two values that the certificate is about, as plain functions of the argument arrays over the extended reals: the gradient
  of the layer's input (`dxVal`) and the gradient of its weight (`dwVal`). No program appears here.
-/
module

public import Idealize.ShloMosaic.Lib.Pipeline.ValueKit
public import Idealize.ShloMosaic.Lib.Pointwise

@[expose] public section

noncomputable section

namespace Cert.Proof

open Idealize.ShloMosaic

/-- The gradient of the input: row `n` of the codes against row `d` of the weight's codes, times the product of the
    row's scale and the weight row's scale. The scales of the rows are row 0 of an array of eight rows. -/
def dxVal (codes : Vec Ideal ⟨2, ![12800, 1280]⟩ .fp8e5m2) (scales : Vec Ideal ⟨2, ![8, 12800]⟩ .f32)
    (w : Vec Ideal ⟨2, ![5120, 1280]⟩ .fp8e4m3) (ws : Vec Ideal ⟨1, ![5120]⟩ .f32) :
    Vec Ideal ⟨2, ![12800, 5120]⟩ .bf16 :=
  fun i => (∑ k : Fin 1280, codes (ix2 (i 0) k) * w (ix2 (i 1) k) : EReal) * (scales (ix2 0 (i 0)) * ws (ix1 (i 1)) : EReal)

/-- The gradient of the weight: column `d` of the scaled input against column `c` of the scaled codes, summed over all rows. -/
def dwVal (x : Vec Ideal ⟨2, ![12800, 5120]⟩ .fp8e4m3) (xs : Vec Ideal ⟨1, ![12800]⟩ .f32)
    (codes : Vec Ideal ⟨2, ![12800, 1280]⟩ .fp8e5m2) (scales : Vec Ideal ⟨2, ![8, 12800]⟩ .f32) :
    Vec Ideal ⟨2, ![5120, 1280]⟩ .f32 :=
  fun i => (∑ n : Fin 12800, (x (ix2 n (i 0)) * xs (ix1 n)) * (codes (ix2 n (i 1)) * scales (ix2 0 n)) : EReal)

end Cert.Proof

end
-- ==== Proof.KernelDxBlock.lean ====
/-
  What one grid point of the kernel for the input's gradient leaves in its output block, element by element.
-/
module

public import proofs.«01_k».proof.Proof.Spec
public import proofs.«01_k».proof.Proof.Gen.KernelDxIdeal.Frame

@[expose] public section

set_option maxRecDepth 16384

noncomputable section

namespace Cert.KernelDxIdeal.Value

open Cert.KernelDxIdeal Cert.KernelDxIdeal.Gen Idealize.ShloMosaic Idealize.ShloMosaic.TcCoe Idealize.SL.Sem

/-- The block of the result that one grid point computes from its blocks of the arguments. -/
def dxBlock (x0 : Vec Ideal S1280x1280 .fp8e5m2) (x1 : Vec Ideal S8x1280 .f32) (x2 : Vec Ideal S5120x1280 .fp8e4m3)
    (x3 : Vec Ideal S1x5120 .f32) : Vec Ideal S1280x5120 .bf16 :=
  fun i => (∑ k : Fin 1280, x0 (ix2 (i 0) k) * x2 (ix2 (i 1) k) : EReal) * (x1 (ix2 0 (i 0)) * x3 (ix2 0 (i 1)) : EReal)

/-- The row of scales turned into a column: ten tiles of 128 entries, each spread over 128 lanes and transposed. -/
theorem column (v : Vec Ideal S1x1280 .f32) (i : S1280x128.Idx) : k0_pay5 (F := Ideal) v i = v (ix2 0 (i 0)) := by
  idx_vars i
  pointwise [k0_pay5]
  have hv : ∀ (k : ℕ) (hk : k < 1280), k = (i0 : ℕ) → v (ix2 0 ⟨k, hk⟩) = v (ix2 0 i0) := by
    rintro _ _ rfl
    rfl
  repeat' (split; · exact hv _ _ (by omega))
  exact hv _ _ (by omega)

/-- One stored tile, 256 rows by 128 columns: a half of the product of 256 rows of the codes with 256 rows of the weight's
    codes, times the product of the rows' scales and the columns' scales. The tile starts at row `a` and column `l = b + o`. -/
theorem piece (x0 : Vec Ideal S1280x1280 .fp8e5m2) (x1 : Vec Ideal S8x1280 .f32) (x2 : Vec Ideal S5120x1280 .fp8e4m3)
    (x3 : Vec Ideal S1x5120 .f32) (col : FVec Ideal S1280x128 .f32) (hcol : ∀ i, col i = x1 (ix2 0 (i 0)))
    (a b o l : ℕ) (x : S256x128.Idx) (y : S1280x5120.Idx)
    (h0 : (y 0 : ℕ) = a + (x 0 : ℕ)) (h1 : (y 1 : ℕ) = l + (x 1 : ℕ)) (hl : l = b + o)
    (ha : ∀ i, (![a, 0] : Fin 2 → Nat) i + S256x1280.size i ≤ S1280x1280.size i := by decide)
    (hb : ∀ i, (![b, 0] : Fin 2 → Nat) i + S256x1280.size i ≤ S5120x1280.size i := by decide)
    (hw : ∀ i, (![0, l] : Fin 2 → Nat) i + S1x128.size i ≤ S1x5120.size i := by decide)
    (hs1 : S256x256.Slices ![0, o] S256x128 := by decide) (hs2 : S1280x128.Slices ![a, 0] S256x128 := by decide) :
    truncf .bf16 (mulf (extractStridedSlice S256x128 ![0, o]
        (matmul (φ₁ := .fp8e5m2) (φ₂ := .fp8e4m3) dot_S256x1280_S256x1280_S256x256_1_1_0_0_n_n none
          (View.ld x0 (Rect.unit (s := S1280x1280) ![a, 0] S256x1280.size ha))
          (View.ld x2 (Rect.unit (s := S5120x1280) ![b, 0] S256x1280.size hb))
          (constant S256x256 .f32 0x00000000#32)) hs1)
      (mulf (extractStridedSlice S256x128 ![a, 0] col hs2)
        (broadcastTo S256x128 (shapeCast S1x128 (View.ld x3 (Rect.unit (s := S1x5120) ![0, l] S1x128.size hw))
          shapeCasts_S1x128_S1x128) broadcasts_S1x128_S256x128))) bitsLt_bf16_f32 x = dxBlock x0 x1 x2 x3 y := by
  pointwise [dxBlock]
  rw [hcol]
  congr 1
  · refine Finset.sum_congr rfl fun k _ => ?_
    congr 1 <;> blk_ext
  · congr 1 <;> blk_ext

/-- The two hundred stored tiles together are the block. -/
theorem block (x0 : Vec Ideal S1280x1280 .fp8e5m2) (x1 : Vec Ideal S8x1280 .f32) (x2 : Vec Ideal S5120x1280 .fp8e4m3)
    (x3 : Vec Ideal S1x5120 .f32) : out0_4 (F := Ideal) x0 x1 x2 x3 = dxBlock x0 x1 x2 x3 := by
  funext y
  unfold_out out0_4
  simp only [k0_pay8]
  have hcol : ∀ i, k0_pay5 (View.ld x1 r0_0) i = x1 (ix2 0 (i 0)) := fun i => by
    rw [column]
    pointwise
  generalize k0_pay5 (View.ld x1 r0_0) = col at hcol ⊢
  canon_tiles x h
  all_goals
    open_payloads
    refine piece _ _ _ _ _ hcol _ _ _ _ _ _ ?_ ?_ ?_ <;> omega

end Cert.KernelDxIdeal.Value

end
-- ==== Proof.KernelDx.lean ====
/-
  What the kernel for the input's gradient computes: its result array is `dxVal` of its arguments.
-/
module

public import proofs.«01_k».proof.Proof.KernelDxBlock
public import proofs.«01_k».proof.Proof.Gen.KernelDxIdeal.Value

@[expose] public section

set_option maxRecDepth 16384

noncomputable section

namespace Cert.KernelDxIdeal.Value

open Cert.KernelDxIdeal Cert.KernelDxIdeal.Gen Idealize.ShloMosaic Idealize.ShloMosaic.TcCoe Idealize.SL.Sem

variable (m : (ℓ : Loc nD τ sig) → Buf (Elt Ideal) ℓ) (ρ : Dev nD → PrngReg)

/-- Where the blocks of grid point `t` start: block row `t` of the codes and of the result, block column `t` of the
    scales, and all of the weight's codes and scales. -/
theorem idx (t : Fin cfg0.N) : win0_0.index t = ![t.val, 0] ∧ win0_1.index t = ![0, t.val] ∧ win0_2.index t = ![0, 0]
    ∧ win0_3.index t = ![0, 0] ∧ win0_4.index t = ![t.val, 0] :=
  (by decide +kernel : ∀ t : Fin grid0.N, win0_0.index t = ![t.val, 0] ∧ win0_1.index t = ![0, t.val]
    ∧ win0_2.index t = ![0, 0] ∧ win0_3.index t = ![0, 0] ∧ win0_4.index t = ![t.val, 0]) t

/-- The result array after the run, element by element. -/
theorem final (c : Dev nD) : (dats m 0 c).arrAt 4 cfg0.N
    = Cert.Proof.dxVal (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4, block]
  pointwise [dxBlock, Cert.Proof.dxVal]
  blk_point [iblk, V, idx t]

/-- The whole run: it ends, the result array is `dxVal` of the arguments, and the arguments are as they were. -/
theorem run : θ_run defs (onTc (τ := τ) (main (F := Ideal))) ⟨m, fun _ => 0, ρ⟩ fun r => ∀ c : Dev nD,
      r.2.mem ((c : Thread nD τ).loc main_v1)
        = Cert.Proof.dxVal (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelDxIdeal.Value

end
-- ==== Proof.ReferenceDx.lean ====
/-
  What the reference of the input's gradient computes: its result array is `dxVal` of its arguments.
-/
module

public import proofs.«01_k».proof.Proof.Spec
public import proofs.«01_k».proof.Proof.Gen.ReferenceDxIdeal.Value

@[expose] public section

set_option maxRecDepth 16384

noncomputable section

namespace Cert.ReferenceDxIdeal.Value

open Cert.ReferenceDxIdeal Cert.ReferenceDxIdeal.Gen Idealize.ShloMosaic Idealize.ShloMosaic.TcCoe Idealize.SL.Sem

variable (m : (ℓ : Loc nD τ sig) → Buf (Elt Ideal) ℓ) (ρ : Dev nD → PrngReg)

/-- The one grid point's blocks all start at the origin. -/
theorem idx (t : Fin cfg0.N) : win0_0.index t = ![0, 0] ∧ win0_1.index t = ![0, 0] ∧ win0_2.index t = ![0, 0]
    ∧ win0_3.index t = ![0, 0] ∧ win0_4.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0]) t

/-- The result array after the run, element by element. -/
theorem final (c : Dev nD) : (dats m 0 c).arrAt 4 cfg0.N
    = Cert.Proof.dxVal (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, Cert.Proof.dxVal]
  blk_point [iblk, V, idx t]

/-- The whole run: it ends, the result array is `dxVal` of the arguments, and the arguments are as they were. -/
theorem run : θ_run defs (onTc (τ := τ) (main (F := Ideal))) ⟨m, fun _ => 0, ρ⟩ fun r => ∀ c : Dev nD,
      r.2.mem ((c : Thread nD τ).loc main_v4)
        = Cert.Proof.dxVal (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.ReferenceDxIdeal.Value

end
-- ==== Proof.KernelDwColumn.lean ====
/-
  The rows of scales of the kernel for the weight's gradient, turned into columns, element by element.
-/
module

public import proofs.«01_k».proof.Proof.Spec
public import proofs.«01_k».proof.Proof.Gen.KernelDwIdeal.Skeleton

@[expose] public section

set_option maxRecDepth 16384

noncomputable section

namespace Cert.KernelDwIdeal.Value

open Cert.KernelDwIdeal Cert.KernelDwIdeal.Gen Idealize.ShloMosaic Idealize.ShloMosaic.TcCoe Idealize.SL.Sem

/-- A stretch of 128 entries of a row of 2560 lies in it. -/
theorem slices (j : Fin 20) : S1x2560.Slices ![0, 128 * j.val] S1x128 := by
  revert j
  decide

/-- Tile `j` of a column: 128 entries of the row, spread over 128 lanes and transposed. -/
def tile (v : Vec Ideal S1x2560 .f32) (j : Fin 20) : FVec Ideal S128x128 .f32 :=
  transpose S128x128 [1, 0]
    (broadcastTo S128x128
      (shapeCast S1x128 (extractStridedSlice S1x128 ![0, 128 * j.val] v (slices j)) shapeCasts_S1x128_S1x128)
      broadcasts_S1x128_S128x128) transposes_S128x128_p1_0_S128x128

/-- Row `r` of tile `j` is entry `128 j + r` of the row, in every lane. -/
theorem tile_apply (v : Vec Ideal S1x2560 .f32) (j : Fin 20) (i : S128x128.Idx) (n : Fin 2560)
    (h : (n : ℕ) = 128 * j.val + (i 0 : ℕ)) : tile v j i = v (ix2 0 n) := by
  pointwise [tile]
  congr 1
  blk_ext

/-- Twenty tiles of 128 rows make a column of 2560 rows. -/
theorem concatenates : Shape.Concatenates ((List.ofFn fun _ : Fin 20 => S128x128)) S2560x128 0 := by
  decide

/-- The twenty tiles of a column, one below the other. -/
def column (v : Vec Ideal S1x2560 .f32) : FVec Ideal S2560x128 .bf16 :=
  truncf .bf16 (concatenate S2560x128 0 (List.ofFn fun j : Fin 20 => (⟨S128x128, tile v j⟩ : (s : Shape) × (s.Idx → EReal)))
    concatenates) bitsLt_bf16_f32

/-- Row `r` of the column is entry `r` of the row of scales, in every lane. -/
theorem column_apply (v : Vec Ideal S1x2560 .f32) (i : S2560x128.Idx) : column v i = v (ix2 0 (i 0)) := by
  show concatenate S2560x128 0 (List.ofFn fun j : Fin 20 => (⟨S128x128, tile v j⟩ : (s : Shape) × (s.Idx → EReal)))
    concatenates i = _
  have h0 : (i 0 : ℕ) < 2560 := (i 0).isLt
  have h1 : (i 1 : ℕ) < 128 := (i 1).isLt
  refine (concatenate_ofFn_apply (t := S2560x128) (s₁ := S128x128) 0 (tile v) concatenates rfl 128 rfl i
    ⟨(i 0 : ℕ) / 128, by omega⟩ rfl (ix2 ⟨(i 0 : ℕ) % 128, by omega⟩ ⟨(i 1 : ℕ), h1⟩) rfl fun b hb => ?_).trans ?_
  · fin_cases b
    · exact absurd rfl hb
    · rfl
  · refine tile_apply v _ _ _ ?_
    show (i 0 : ℕ) = 128 * ((i 0 : ℕ) / 128) + (i 0 : ℕ) % 128
    omega

/-- The row of the gradient's scales turned into a column. -/
theorem columnC (v : Vec Ideal S1x2560 .f32) (i : S2560x128.Idx) :
    k0_pay23 (F := Ideal) v (k0_pay17 v) (k0_pay18 v) (k0_pay19 v) (k0_pay20 v) (k0_pay21 v) (k0_pay22 v) i
      = v (ix2 0 (i 0)) :=
  column_apply v i

/-- The row of the input's scales turned into a column. -/
theorem columnX (v : Vec Ideal S1x2560 .f32) (i : S2560x128.Idx) :
    k0_pay16 (F := Ideal) (k0_pay3 v) (k0_pay4 v) (k0_pay5 v) (k0_pay6 v) (k0_pay7 v) (k0_pay8 v) (k0_pay9 v) (k0_pay10 v)
      (k0_pay11 v) (k0_pay12 v) (k0_pay13 v) (k0_pay14 v) (k0_pay15 v) i = v (ix2 0 (i 0)) := by
  refine Eq.trans (column_apply (k0_pay3 v) i) ?_
  pointwise [k0_pay3]

end Cert.KernelDwIdeal.Value

end
-- ==== Proof.KernelDwBlock.lean ====
/-
  What one grid point of the kernel for the weight's gradient adds to its output block, element by element.
-/
module

public import proofs.«01_k».proof.Proof.KernelDwColumn
public import proofs.«01_k».proof.Proof.Gen.KernelDwIdeal.Frame
public import Idealize.ShloMosaic.Lib.Pipeline.ReadBack

@[expose] public section

set_option maxRecDepth 16384

noncomputable section

namespace Cert.KernelDwIdeal.Value

open Cert.KernelDwIdeal Cert.KernelDwIdeal.Gen Idealize.ShloMosaic Idealize.ShloMosaic.TcCoe Idealize.SL.Sem

/-- One stored tile of the scaled gradient: 128 columns of the codes, each row times its scale. -/
theorem scaledTile (x2 : Vec Ideal S2560x1280 .fp8e5m2) (s : Vec Ideal S8x2560 .f32) (cc : FVec Ideal S2560x128 .bf16)
    (hcc : ∀ i, cc i = s (ix2 0 (i 0))) (l : ℕ) (x : S2560x128.Idx) (y : S2560x1280.Idx)
    (h0 : (y 0 : ℕ) = x 0) (h1 : (y 1 : ℕ) = l + (x 1 : ℕ))
    (ha : ∀ i, (![0, l] : Fin 2 → Nat) i + S2560x128.size i ≤ S2560x1280.size i := by decide) :
    shapeCast S2560x128 (mulf (extf .bf16 (View.ld x2 (Rect.unit (s := S2560x1280) ![0, l] S2560x128.size ha))
      bitsLt_fp8e5m2_bf16) cc) shapeCasts_S2560x128_S2560x128 x = ((x2 y : EReal) * s (ix2 0 (y 0)) : EReal) := by
  pointwise
  rw [hcc]
  congr 1 <;> blk_ext

/-- The scratch buffer after its ten stores holds the codes of the gradient, each row times its scale. -/
theorem scratch (arg7 : Memref sig .tc .vmem S2560x1280 .bf16) (x2 : Vec Ideal S2560x1280 .fp8e5m2)
    (s : Vec Ideal S8x2560 .f32) (cc : FVec Ideal S2560x128 .bf16) (hcc : ∀ i, cc i = s (ix2 0 (i 0))) :
    arg7.view.readCov (Val := Elt Ideal)
      [⟨Rect.unit ![0, 1152] ![2560, 128] inb_S2560x1280_S2560x128_0_1152,
        k0_pay34 cc (View.ld x2 (Rect.unit ![0, 1152] ![2560, 128] inb_S2560x1280_S2560x128_0_1152))⟩,
      ⟨Rect.unit ![0, 1024] ![2560, 128] inb_S2560x1280_S2560x128_0_1024,
        k0_pay33 cc (View.ld x2 (Rect.unit ![0, 1024] ![2560, 128] inb_S2560x1280_S2560x128_0_1024))⟩,
      ⟨Rect.unit ![0, 896] ![2560, 128] inb_S2560x1280_S2560x128_0_896,
        k0_pay32 cc (View.ld x2 (Rect.unit ![0, 896] ![2560, 128] inb_S2560x1280_S2560x128_0_896))⟩,
      ⟨Rect.unit ![0, 768] ![2560, 128] inb_S2560x1280_S2560x128_0_768,
        k0_pay31 cc (View.ld x2 (Rect.unit ![0, 768] ![2560, 128] inb_S2560x1280_S2560x128_0_768))⟩,
      ⟨Rect.unit ![0, 640] ![2560, 128] inb_S2560x1280_S2560x128_0_640,
        k0_pay30 (k0_pay29 cc (View.ld x2 (Rect.unit ![0, 640] ![2560, 128] inb_S2560x1280_S2560x128_0_640)))⟩,
      ⟨Rect.unit ![0, 512] ![2560, 128] inb_S2560x1280_S2560x128_0_512,
        k0_pay28 cc (View.ld x2 (Rect.unit ![0, 512] ![2560, 128] inb_S2560x1280_S2560x128_0_512))⟩,
      ⟨Rect.unit ![0, 384] ![2560, 128] inb_S2560x1280_S2560x128_0_384,
        k0_pay27 cc (View.ld x2 (Rect.unit ![0, 384] ![2560, 128] inb_S2560x1280_S2560x128_0_384))⟩,
      ⟨Rect.unit ![0, 256] ![2560, 128] inb_S2560x1280_S2560x128_0_256,
        k0_pay26 cc (View.ld x2 (Rect.unit ![0, 256] ![2560, 128] inb_S2560x1280_S2560x128_0_256))⟩,
      ⟨Rect.unit ![0, 128] ![2560, 128] inb_S2560x1280_S2560x128_0_128,
        k0_pay25 cc (View.ld x2 (Rect.unit ![0, 128] ![2560, 128] inb_S2560x1280_S2560x128_0_128))⟩,
      ⟨Rect.unit ![0, 0] ![2560, 128] inb_S2560x1280_S2560x128_0_0,
        k0_pay24 cc (View.ld x2 (Rect.unit ![0, 0] ![2560, 128] inb_S2560x1280_S2560x128_0_0))⟩]
      (Rect.unit ![0, 0] ![2560, 1280] inb_S2560x1280_S2560x1280_0_0).toLoadRect
    = fun i => ((x2 i : EReal) * s (ix2 0 (i 0)) : EReal) := by
  rw [View.readCov_eq_canon']
  refine (View.ld_unit_lit (S := S2560x1280) inb_S2560x1280_S2560x1280_0_0 (View.canon _) (by decide)).trans ?_
  funext y
  canon_tiles x h
  all_goals
    open_payloads
    refine scaledTile _ _ _ hcc _ _ _ ?_ ?_ <;> omega

/-- What one grid point adds to its output block: the sum over the point's 2560 rows. -/
def dwStep (x0 : Vec Ideal S2560x1280 .fp8e4m3) (x1 : Vec Ideal S1x2560 .f32) (x2 : Vec Ideal S2560x1280 .fp8e5m2)
    (x3 : Vec Ideal S8x2560 .f32) (y : S1280x1280.Idx) : EReal :=
  ∑ n : Fin 2560, ((x0 (ix2 n (y 0)) : EReal) * x1 (ix2 0 n)) * ((x2 (ix2 n (y 1)) : EReal) * x3 (ix2 0 n))

/-- One stored strip of 256 rows of the output block: what was there, plus the product of two scaled tiles of the input's
    codes, set side by side and transposed, with the scaled gradient. -/
theorem strip (x0 : Vec Ideal S2560x1280 .fp8e4m3) (x1 : Vec Ideal S1x2560 .f32) (x2 : Vec Ideal S2560x1280 .fp8e5m2)
    (x3 : Vec Ideal S8x2560 .f32) (xc : FVec Ideal S2560x128 .bf16) (hxc : ∀ i, xc i = x1 (ix2 0 (i 0)))
    (acc : FVec Ideal S256x1280 .f32) (z : EReal)
    (a b : ℕ) (x : S256x1280.Idx) (y : S1280x1280.Idx) (hacc : acc x = z) (hab : b = a + 128)
    (h0 : (y 0 : ℕ) = a + (x 0 : ℕ)) (h1 : (y 1 : ℕ) = (x 1 : ℕ))
    (ha : ∀ i, (![0, a] : Fin 2 → Nat) i + S2560x128.size i ≤ S2560x1280.size i := by decide)
    (hb : ∀ i, (![0, b] : Fin 2 → Nat) i + S2560x128.size i ≤ S2560x1280.size i := by decide) :
    addf (shapeCast S256x1280 acc shapeCasts_S256x1280_S256x1280)
      (matmul (φ₁ := .bf16) (φ₂ := .bf16) dot_S256x2560_S2560x1280_S256x1280_1_0_0_1_n_n none
        (transpose S256x2560 [1, 0]
          (concatenate S2560x256 1
            [⟨S2560x128, mulf (extf .bf16 (View.ld x0 (Rect.unit (s := S2560x1280) ![0, a] S2560x128.size ha))
                bitsLt_fp8e4m3_bf16) xc⟩,
              ⟨S2560x128, mulf (extf .bf16 (View.ld x0 (Rect.unit (s := S2560x1280) ![0, b] S2560x128.size hb))
                bitsLt_fp8e4m3_bf16) xc⟩] concatenates_S2560x128_S2560x128_S2560x256_d1)
          transposes_S2560x256_p1_0_S256x2560)
        (fun i : S2560x1280.Idx => ((x2 i : EReal) * x3 (ix2 0 (i 0)) : EReal))
        (constant S256x1280 .f32 0x00000000#32)) x = (z + dwStep x0 x1 x2 x3 y : EReal) := by
  subst hab
  idx_vars x
  pointwise [dwStep]
  congr 1
  refine Finset.sum_congr rfl fun n _ => ?_
  split
  all_goals
    rw [hxc]
    congr 1
    · congr 1; blk_ext
    · congr 1; blk_ext

/-- Earlier stores do not matter at an index that one of the later stores covers. -/
theorem canon_drop (L' : List (View.Piece (Elt Ideal) S1280x1280 .f32)) :
    ∀ (L : List (View.Piece (Elt Ideal) S1280x1280 .f32)) (y : S1280x1280.Idx) (_ : ∃ p ∈ L, y ∈ p.1.set),
      View.canon (L ++ L') y = View.canon L y
  | [], _, hy => by
    obtain ⟨p, hp, _⟩ := hy
    simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩

/-- A point that is not the first of its output block adds its step to what the block held. -/
theorem later (c : Dev nD) (i : grid0.Coords)
    (arg2 : Memref sig .tc .vmem S2560x1280 .fp8e4m3) (harg2 : arg2.IsWhole) (arg3 : Memref sig .tc .vmem S1x2560 .f32)
    (harg3 : arg3.IsWhole) (arg4 : Memref sig .tc .vmem S2560x1280 .fp8e5m2) (harg4 : arg4.IsWhole)
    (arg5 : Memref sig .tc .vmem S8x2560 .f32) (harg5 : arg5.IsWhole) (arg6 : Memref sig .tc .vmem S1280x1280 .f32)
    (harg6 : arg6.IsWhole) (arg7 : Memref sig .tc .vmem S2560x1280 .bf16) (harg7 : arg7.IsWhole)
    (hc0 : ¬cond0_0 i) (x0 : Vec Ideal S2560x1280 .fp8e4m3) (x1 : Vec Ideal S1x2560 .f32)
    (x2 : Vec Ideal S2560x1280 .fp8e5m2) (x3 : Vec Ideal S8x2560 .f32)
    (xo : Vec Ideal S1280x1280 .f32) (y : S1280x1280.Idx) :
    out0_B_4 c i arg2 harg2 arg3 harg3 arg4 harg4 arg5 harg5 arg6 harg6 arg7 harg7 hc0 x0 x1 x2 x3 xo y
      = (xo y + dwStep x0 x1 x2 x3 y : EReal) := by
  frame_open
  simp (disch := decide) only [↓ View.readCov_skip, ↓ View.readCov_cons_toLoadRect, ↓ View.readCov_fill]
  frame_out
  have hcc : ∀ j, k0_pay23 (F := Ideal) (View.ld x3 (Rect.unit ![0, 0] ![1, 2560] inb_S8x2560_S1x2560_0_0))
      (k0_pay17 (View.ld x3 (Rect.unit ![0, 0] ![1, 2560] inb_S8x2560_S1x2560_0_0)))
      (k0_pay18 (View.ld x3 (Rect.unit ![0, 0] ![1, 2560] inb_S8x2560_S1x2560_0_0)))
      (k0_pay19 (View.ld x3 (Rect.unit ![0, 0] ![1, 2560] inb_S8x2560_S1x2560_0_0)))
      (k0_pay20 (View.ld x3 (Rect.unit ![0, 0] ![1, 2560] inb_S8x2560_S1x2560_0_0)))
      (k0_pay21 (View.ld x3 (Rect.unit ![0, 0] ![1, 2560] inb_S8x2560_S1x2560_0_0)))
      (k0_pay22 (View.ld x3 (Rect.unit ![0, 0] ![1, 2560] inb_S8x2560_S1x2560_0_0))) j = x3 (ix2 0 (j 0)) := fun j => by
    rw [columnC]
    pointwise
  have hxc : ∀ j, k0_pay16 (F := Ideal) (k0_pay3 x1) (k0_pay4 x1) (k0_pay5 x1) (k0_pay6 x1) (k0_pay7 x1) (k0_pay8 x1)
      (k0_pay9 x1) (k0_pay10 x1) (k0_pay11 x1) (k0_pay12 x1) (k0_pay13 x1) (k0_pay14 x1) (k0_pay15 x1) j
      = x1 (ix2 0 (j 0)) := columnX x1
  generalize View.ld x3 _ = v3 at hcc ⊢
  generalize k0_pay23 v3 _ _ _ _ _ _ = cc at hcc ⊢
  generalize k0_pay16 (k0_pay3 x1) _ _ _ _ _ _ _ _ _ _ _ _ = xc at hxc ⊢
  rw [scratch arg7 x2 x3 cc hcc]
  canon_tiles x h
  all_goals
    open_payloads
    refine strip _ _ _ _ _ hxc _ _ _ _ _ _ ?_ ?_ ?_ ?_
    · pointwise
      congr 1; blk_ext
    all_goals omega

/-- The first point of an output block leaves its step, over a block of zeros. -/
theorem first (c : Dev nD) (i : grid0.Coords)
    (arg2 : Memref sig .tc .vmem S2560x1280 .fp8e4m3) (harg2 : arg2.IsWhole) (arg3 : Memref sig .tc .vmem S1x2560 .f32)
    (harg3 : arg3.IsWhole) (arg4 : Memref sig .tc .vmem S2560x1280 .fp8e5m2) (harg4 : arg4.IsWhole)
    (arg5 : Memref sig .tc .vmem S8x2560 .f32) (harg5 : arg5.IsWhole) (arg6 : Memref sig .tc .vmem S1280x1280 .f32)
    (harg6 : arg6.IsWhole) (arg7 : Memref sig .tc .vmem S2560x1280 .bf16) (harg7 : arg7.IsWhole)
    (hc0 : cond0_0 i) (x0 : Vec Ideal S2560x1280 .fp8e4m3) (x1 : Vec Ideal S1x2560 .f32)
    (x2 : Vec Ideal S2560x1280 .fp8e5m2) (x3 : Vec Ideal S8x2560 .f32)
    (y : S1280x1280.Idx) :
    out0_A_4 c i arg2 harg2 arg3 harg3 arg4 harg4 arg5 harg5 arg6 harg6 arg7 harg7 hc0 x0 x1 x2 x3 y
      = dwStep x0 x1 x2 x3 y := by
  frame_open
  simp (disch := decide) only [↓ View.readCov_skip, ↓ View.readCov_cons_toLoadRect, ↓ View.readCov_fill]
  frame_out
  have hcc : ∀ j, k0_pay23 (F := Ideal) (View.ld x3 (Rect.unit ![0, 0] ![1, 2560] inb_S8x2560_S1x2560_0_0))
      (k0_pay17 (View.ld x3 (Rect.unit ![0, 0] ![1, 2560] inb_S8x2560_S1x2560_0_0)))
      (k0_pay18 (View.ld x3 (Rect.unit ![0, 0] ![1, 2560] inb_S8x2560_S1x2560_0_0)))
      (k0_pay19 (View.ld x3 (Rect.unit ![0, 0] ![1, 2560] inb_S8x2560_S1x2560_0_0)))
      (k0_pay20 (View.ld x3 (Rect.unit ![0, 0] ![1, 2560] inb_S8x2560_S1x2560_0_0)))
      (k0_pay21 (View.ld x3 (Rect.unit ![0, 0] ![1, 2560] inb_S8x2560_S1x2560_0_0)))
      (k0_pay22 (View.ld x3 (Rect.unit ![0, 0] ![1, 2560] inb_S8x2560_S1x2560_0_0))) j = x3 (ix2 0 (j 0)) := fun j => by
    rw [columnC]
    pointwise
  have hxc : ∀ j, k0_pay16 (F := Ideal) (k0_pay3 x1) (k0_pay4 x1) (k0_pay5 x1) (k0_pay6 x1) (k0_pay7 x1) (k0_pay8 x1)
      (k0_pay9 x1) (k0_pay10 x1) (k0_pay11 x1) (k0_pay12 x1) (k0_pay13 x1) (k0_pay14 x1) (k0_pay15 x1) j
      = x1 (ix2 0 (j 0)) := columnX x1
  generalize View.ld x3 _ = v3 at hcc ⊢
  generalize k0_pay23 v3 _ _ _ _ _ _ = cc at hcc ⊢
  generalize k0_pay16 (k0_pay3 x1) _ _ _ _ _ _ _ _ _ _ _ _ = xc at hxc ⊢
  rw [scratch arg7 x2 x3 cc hcc]
  rw [← zero_add (dwStep x0 x1 x2 x3 y)]
  refine (canon_drop [_] [_, _, _, _, _] y (View.cover_of_tiledL _ ![256, 1280] (by sl_kernel_rfl) y)).trans ?_
  canon_tiles x h
  all_goals
    open_payloads
    refine strip _ _ _ _ _ hxc _ _ _ _ _ _ ?_ ?_ ?_ ?_
    · pointwise
    all_goals omega

end Cert.KernelDwIdeal.Value

end
-- ==== Proof.KernelDw.lean ====
/-
  What the kernel for the weight's gradient computes: its result array is `dwVal` of its arguments.
-/
module

public import proofs.«01_k».proof.Proof.KernelDwBlock
public import proofs.«01_k».proof.Proof.Gen.KernelDwIdeal.Value

@[expose] public section

set_option maxRecDepth 16384

noncomputable section

namespace Cert.KernelDwIdeal.Value

open Cert.KernelDwIdeal Cert.KernelDwIdeal.Gen Idealize.ShloMosaic Idealize.ShloMosaic.TcCoe Idealize.SL.Sem

variable (m : (ℓ : Loc nD τ sig) → Buf (Elt Ideal) ℓ) (ρ : Dev nD → PrngReg)

/-- Where the blocks of grid point `t` start: the rows of step `t % 5` of every argument, and the block of the result
    (and of the columns of the input's codes) number `t / 5`. -/
theorem idx (t : Fin cfg0.N) : win0_0.index t = ![t.val % 5, t.val / 5] ∧ win0_1.index t = ![0, t.val % 5]
    ∧ win0_2.index t = ![t.val % 5, 0] ∧ win0_3.index t = ![0, t.val % 5] ∧ win0_4.index t = ![t.val / 5, 0] :=
  (by decide +kernel : ∀ t : Fin grid0.N, win0_0.index t = ![t.val % 5, t.val / 5] ∧ win0_1.index t = ![0, t.val % 5]
    ∧ win0_2.index t = ![t.val % 5, 0] ∧ win0_3.index t = ![0, t.val % 5] ∧ win0_4.index t = ![t.val / 5, 0]) t

/-- What grid point `t` adds to its output block. -/
def term (c : Dev nD) (t : Fin cfg0.N) (y : S1280x1280.Idx) : EReal :=
  dwStep (iblk m c 0 t) (iblk m c 1 t) (iblk m c 2 t) (iblk m c 3 t) y

/-- After the first point of an output block the block holds that point's step. -/
theorem outsAt_first (c : Dev nD) (t : Fin cfg0.N) (h : t.val % 5 = 0) (y : S1280x1280.Idx) :
    (outsAt0 m c t.val t.isLt y : EReal) = 0 + term m c t y := by
  rw [outsAt0_A m c t h, zero_add]
  exact first ..

/-- After a later point the block holds what it held before, plus the point's step. -/
theorem outsAt_later (c : Dev nD) (t : Fin cfg0.N) (h : ¬t.val % 5 = 0) (y : S1280x1280.Idx) :
    (outsAt0 m c t.val t.isLt y : EReal)
      = outsAt0 m c (t.val - 1) (Nat.lt_of_le_of_lt (Nat.sub_le _ _) t.isLt) y + term m c t y := by
  rw [outsAt0_B m c t h]
  exact later ..

/-- The result array after the run, element by element: the five points of an output block sum the 12800 rows. -/
theorem final (c : Dev nD) : (dats m 0 c).arrAt 4 cfg0.N
    = Cert.Proof.dwVal (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  refine (Pipeline.eq_sum_fin_of_reset_step_apply_of_flush (M := EReal) (fun n h => outsAt0 m c n h) 5 (fun _ => 0)
    (term m c) (outsAt_first m c) (outsAt_later m c) t ((flush0_4 t).mp hf) y).trans ?_
  rw [zero_add]
  refine Fin.sum_mul_add_congr fun s k hl => ?_
  pointwise [term, dwStep, Cert.Proof.dwVal]
  blk_point [iblk, V, idx]

/-- The whole run: it ends, the result array is `dwVal` of the arguments, and the arguments are as they were. -/
theorem run : θ_run defs (onTc (τ := τ) (main (F := Ideal))) ⟨m, fun _ => 0, ρ⟩ fun r => ∀ c : Dev nD,
      r.2.mem ((c : Thread nD τ).loc main_v1)
        = Cert.Proof.dwVal (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelDwIdeal.Value

end
-- ==== Proof.ReferenceDw.lean ====
/-
  What the reference of the weight's gradient computes: its result array is `dwVal` of its arguments.
-/
module

public import proofs.«01_k».proof.Proof.Spec
public import proofs.«01_k».proof.Proof.Gen.ReferenceDwIdeal.Value

@[expose] public section

set_option maxRecDepth 16384

noncomputable section

namespace Cert.ReferenceDwIdeal.Value

open Cert.ReferenceDwIdeal Cert.ReferenceDwIdeal.Gen Idealize.ShloMosaic Idealize.ShloMosaic.TcCoe Idealize.SL.Sem

variable (m : (ℓ : Loc nD τ sig) → Buf (Elt Ideal) ℓ) (ρ : Dev nD → PrngReg)

/-- The one grid point's blocks all start at the origin. -/
theorem idx (t : Fin cfg0.N) : win0_0.index t = ![0, 0] ∧ win0_1.index t = ![0, 0] ∧ win0_2.index t = ![0, 0]
    ∧ win0_3.index t = ![0, 0] ∧ win0_4.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0]) t

/-- The result array after the run, element by element. -/
theorem final (c : Dev nD) : (dats m 0 c).arrAt 4 cfg0.N
    = Cert.Proof.dwVal (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, Cert.Proof.dwVal]
  blk_point [iblk, V, idx t]

/-- The whole run: it ends, the result array is `dwVal` of the arguments, and the arguments are as they were. -/
theorem run : θ_run defs (onTc (τ := τ) (main (F := Ideal))) ⟨m, fun _ => 0, ρ⟩ fun r => ∀ c : Dev nD,
      r.2.mem ((c : Thread nD τ).loc main_v4)
        = Cert.Proof.dwVal (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.ReferenceDwIdeal.Value

end
-- ==== Proof.Exponent.lean ====
/-
  The scale of a row. A scale is the least power of two above a row's largest entry (times a constant). One program finds it by
  a binary search for the exponent field of a floating-point word and builds the word of the power and of its inverse;
  the other takes the least of the powers of two that are above.
-/
module

public import Idealize.ShloMosaic.Lib.Pipeline.ValueKit
public import Idealize.ShloMosaic.Lib.Pointwise

@[expose] public section

noncomputable section

namespace Cert.Proof

open Idealize.ShloMosaic

/-- The number whose word has exponent field `t` and nothing else. -/
def word (t : ℕ) : EReal := Ideal.ofBits .f32 (BitVec.ofNat 32 t <<< 23)

theorem word_fields : ∀ t : Fin 256, (BitVec.extractLsb' 31 1 (BitVec.ofNat 32 t.val <<< 23) = 0#1)
    ∧ (BitVec.extractLsb' 23 8 (BitVec.ofNat 32 t.val <<< 23)).toNat = t.val
    ∧ (BitVec.extractLsb' 0 23 (BitVec.ofNat 32 t.val <<< 23)).toNat = 0 := by decide +kernel

/-- The word with exponent field 0 is zero. -/
theorem word_zero : word 0 = 0 := by
  simp [word]

/-- A significand of one, as the reading of a word writes it. -/
theorem significand (t : ℕ) : (1 : ℝ) * ((2 ^ 23 + 0 : ℕ) : ℝ) * (2 : ℝ) ^ ((t : ℤ) - (2 ^ (8 - 1) - 1) - (23 : ℕ))
    = 2 ^ ((t : ℤ) - 127) := by
  have e1 : (t : ℤ) - (2 ^ (8 - 1) - 1) - ((23 : ℕ) : ℤ) = ((t : ℤ) - 127) - 23 := by norm_num
  have e2 : ((2 ^ 23 + 0 : ℕ) : ℝ) = 8388608 := by norm_num
  have e3 : (2 : ℝ) ^ (23 : ℤ) = 8388608 := by norm_num
  rw [e1, e2, zpow_sub₀ two_ne_zero, e3, one_mul]
  ring

/-- The word with exponent field `t` from 1 to 254 is the power of two with exponent `t - 127`. -/
theorem word_eq (t : ℕ) (h0 : 1 ≤ t) (h1 : t ≤ 254) : word t = (((2 : ℝ) ^ ((t : ℤ) - 127) : ℝ) : EReal) := by
  obtain ⟨a, b, c⟩ := word_fields ⟨t, by omega⟩
  simp only at a b c
  simp only [word, Ideal.ofBits, Ideal.ieee, Nat.reduceAdd, a, b, c]
  rw [if_neg (by omega), if_neg (by omega), if_neg (by decide)]
  exact congrArg _ (significand t)

/-- The word with exponent field 255 is infinity. -/
theorem word_255 : word 255 = ⊤ := by
  obtain ⟨a, b, c⟩ := word_fields ⟨255, by omega⟩
  simp only at a b c
  simp only [word, Ideal.ofBits, Ideal.ieee, Nat.reduceAdd, a, b, c]
  simp

/-- Words with larger exponent fields are larger. -/
theorem word_lt (s t : ℕ) (h : s < t) (ht : t ≤ 255) : word s < word t := by
  rcases Nat.lt_or_ge t 255 with h2 | h2
  · rw [word_eq t (by omega) (by omega)]
    rcases Nat.eq_zero_or_pos s with rfl | h1
    · rw [word_zero]
      exact_mod_cast (by positivity : (0 : ℝ) < 2 ^ ((t : ℤ) - 127))
    · rw [word_eq s (by omega) (by omega)]
      refine EReal.coe_lt_coe_iff.mpr ?_
      exact zpow_lt_zpow_right₀ (by norm_num) (by omega)
  · obtain rfl : t = 255 := by omega
    rw [word_255]
    rcases Nat.eq_zero_or_pos s with rfl | h1
    · rw [word_zero]; exact EReal.zero_lt_top
    · rw [word_eq s (by omega) (by omega)]
      exact EReal.coe_lt_top _

/-- A number from 0 up to below the power 126 lies between two neighbouring words. -/
theorem exists_field (a : EReal) (h0 : 0 ≤ a) (h1 : a < word 253) :
    ∃ e : ℕ, e ≤ 252 ∧ ∀ t : ℕ, t ≤ 255 → (word t ≤ a ↔ t ≤ e) := by
  classical
  refine ⟨Nat.findGreatest (fun t => word t ≤ a) 252, Nat.findGreatest_le _, fun t ht => ⟨fun h => ?_, fun h => ?_⟩⟩
  · rcases Nat.lt_or_ge t 253 with h2 | h2
    · exact Nat.le_findGreatest (by omega) h
    · rcases Nat.eq_or_lt_of_le h2 with h3 | h3
      · subst h3
        exact absurd h (not_le.mpr h1)
      · exact absurd h (not_le.mpr (h1.trans (word_lt _ _ h3 ht)))
  · have h2 : word (Nat.findGreatest (fun t => word t ≤ a) 252) ≤ a :=
      Nat.findGreatest_spec (P := fun t => word t ≤ a) (m := 0) (by omega) (by simpa only [word_zero] using h0)
    rcases Nat.eq_or_lt_of_le h with h3 | h3
    · rw [h3]; exact h2
    · exact ((word_lt _ _ h3 (by have := Nat.findGreatest_le (P := fun t => word t ≤ a) 252; omega)).le).trans h2

/-- One step of the search: try the next bit of the field. -/
def step (a : EReal) (b e : BitVec 32) : BitVec 32 :=
  if Ideal.ofBits .f32 ((e + b) <<< 23) ≤ a then e + b else e

/-- The search, from the highest bit of the field to the lowest. -/
def field (a : EReal) : BitVec 32 :=
  step a 1#32 (step a 2#32 (step a 4#32 (step a 8#32 (step a 16#32 (step a 32#32 (step a 64#32 (step a 128#32 0#32)))))))

/-- The same step on a known exponent field. -/
theorem steps : ∀ e : Fin 256, ∀ j : Fin 8,
    let x := BitVec.ofNat 32 (e.val / 2 ^ (j.val + 1) * 2 ^ (j.val + 1)) + BitVec.ofNat 32 (2 ^ j.val)
    x = BitVec.ofNat 32 x.toNat ∧ x.toNat ≤ 255
      ∧ (if x.toNat ≤ e.val then x else BitVec.ofNat 32 (e.val / 2 ^ (j.val + 1) * 2 ^ (j.val + 1)))
        = BitVec.ofNat 32 (e.val / 2 ^ j.val * 2 ^ j.val) := by decide +kernel

/-- A step of the search finds the next bit of the field. -/
theorem step_eq (a : EReal) (e : ℕ) (he : e ≤ 252) (h : ∀ t : ℕ, t ≤ 255 → (word t ≤ a ↔ t ≤ e)) (j : Fin 8) :
    step a (BitVec.ofNat 32 (2 ^ j.val)) (BitVec.ofNat 32 (e / 2 ^ (j.val + 1) * 2 ^ (j.val + 1)))
      = BitVec.ofNat 32 (e / 2 ^ j.val * 2 ^ j.val) := by
  obtain ⟨h1, h2, h3⟩ := steps ⟨e, by omega⟩ j
  rw [← h3]
  dsimp only [step]
  have h4 := h _ h2
  dsimp only [word] at h4 h1
  rw [← h1] at h4
  simp only [h4]

/-- The search finds the exponent field. -/
theorem field_eq (a : EReal) (e : ℕ) (he : e ≤ 252) (h : ∀ t : ℕ, t ≤ 255 → (word t ≤ a ↔ t ≤ e)) :
    field a = BitVec.ofNat 32 e := by
  have h7 : step a 128#32 0#32 = BitVec.ofNat 32 (e / 2 ^ (7 : Fin 8).val * 2 ^ (7 : Fin 8).val) := by
    have := step_eq a e he h 7
    rwa [show e / 2 ^ ((7 : Fin 8).val + 1) * 2 ^ ((7 : Fin 8).val + 1) = 0 by
      rw [show e / 2 ^ ((7 : Fin 8).val + 1) = 0 from Nat.div_eq_of_lt (by show e < 256; omega)]; rfl] at this
  have h6 := step_eq a e he h 6
  have h5 := step_eq a e he h 5
  have h4 := step_eq a e he h 4
  have h3 := step_eq a e he h 3
  have h2 := step_eq a e he h 2
  have h1 := step_eq a e he h 1
  have h0 := step_eq a e he h 0
  have h0' : BitVec.ofNat 32 (e / 2 ^ (0 : Fin 8).val * 2 ^ (0 : Fin 8).val) = BitVec.ofNat 32 e := by simp
  rw [h0'] at h0
  exact (congrArg (step a 1#32) ((congrArg (step a 2#32) ((congrArg (step a 4#32) ((congrArg (step a 8#32)
    ((congrArg (step a 16#32) ((congrArg (step a 32#32) ((congrArg (step a 64#32) h7).trans h6)).trans h5)).trans
    h4)).trans h3)).trans h2)).trans h1)).trans h0

/-- The exponent that belongs to a number: 0 for zero, else the exponent field less 126. -/
def expo (a : EReal) : BitVec 32 := if a = 0 then 0#32 else field a - 126#32

/-- The power of two built as a word. -/
def scaleWord (a : EReal) : EReal := Ideal.ofBits .f32 ((expo a + 127#32) <<< 23)

/-- The inverse power of two built as a word. -/
def invWord (a : EReal) : EReal := Ideal.ofBits .f32 ((127#32 - expo a) <<< 23)

/-- The power of two with exponent `k - 126`. -/
def power (k : Fin 254) : EReal := word (k.val + 1)

/-- The least of the powers of two above a number; 1 for zero. -/
def scaleOf (a : EReal) : EReal := if a = 0 then 1 else ⨅ k : Fin 254, if a < power k then power k else ⊤

theorem words : ∀ e : Fin 253, BitVec.ofNat 32 e.val - 126#32 + 127#32 = BitVec.ofNat 32 (e.val + 1)
    ∧ 127#32 - (BitVec.ofNat 32 e.val - 126#32) = BitVec.ofNat 32 (253 - e.val) := by decide +kernel

/-- The least power of two above a number between two neighbouring words is the upper one. -/
theorem iInf_power (a : EReal) (e : ℕ) (he : e ≤ 252) (h : ∀ t : ℕ, t ≤ 255 → (word t ≤ a ↔ t ≤ e)) :
    (⨅ k : Fin 254, if a < power k then power k else ⊤) = word (e + 1) := by
  refine le_antisymm ?_ ?_
  · refine (iInf_le _ ⟨e, by omega⟩).trans ?_
    rw [if_pos]
    · rfl
    · refine not_le.mp fun h2 => ?_
      have := (h (e + 1) (by omega)).mp h2
      omega
  · refine le_iInf fun k => ?_
    split
    · rename_i h2
      have h3 : ¬(k.val + 1 ≤ e) := fun h3 => absurd ((h (k.val + 1) (by omega)).mpr h3) (not_le.mpr h2)
      rcases Nat.eq_or_lt_of_le (show e + 1 ≤ k.val + 1 by omega) with h4 | h4
      · rw [h4]; exact le_refl _
      · exact (word_lt _ _ h4 (by omega)).le
    · exact le_top

/-- The word built from the search is the least power of two above, and the other word is its inverse. -/
theorem scaleWord_eq (a : EReal) (h0 : 0 ≤ a) (h1 : a < word 253) :
    scaleWord a = scaleOf a ∧ ∀ x : EReal, x * invWord a = Ideal.div x (scaleOf a) := by
  by_cases hz : a = 0
  · subst hz
    have h2 : word 127 = 1 := by rw [word_eq 127 (by omega) (by omega)]; simp
    have h3 : scaleOf 0 = 1 := by simp [scaleOf]
    rw [h3]
    refine ⟨?_, fun x => ?_⟩
    · rw [← h2]; simp only [scaleWord, expo, if_pos]; rfl
    · have : invWord 0 = 1 := by rw [← h2]; simp only [invWord, expo, if_pos]; rfl
      rw [this]
      simp [Ideal.div]
  · obtain ⟨e, he, h⟩ := exists_field a h0 h1
    obtain ⟨hs, hi⟩ := words ⟨e, by omega⟩
    dsimp only at hs hi
    have hS : scaleOf a = word (e + 1) := by rw [scaleOf, if_neg hz, iInf_power a e he h]
    have hW : scaleWord a = word (e + 1) := by rw [scaleWord, expo, if_neg hz, field_eq a e he h, hs]; rfl
    have hI : invWord a = word (253 - e) := by rw [invWord, expo, if_neg hz, field_eq a e he h, hi]; rfl
    refine ⟨hW.trans hS.symm, fun x => ?_⟩
    rw [hI, hS, word_eq (e + 1) (by omega) (by omega), word_eq (253 - e) (by omega) (by omega)]
    have hp : (0 : ℝ) < 2 ^ (((e + 1 : ℕ) : ℤ) - 127) := by positivity
    rw [Ideal.div, if_neg (by exact_mod_cast hp.ne'), ← EReal.coe_inv, ← zpow_neg]
    congr 3
    push_cast [Nat.cast_sub (show e ≤ 253 by omega)]
    ring

end Cert.Proof

end
-- ==== Proof.KernelFinTile.lean ====
/-
  One tile of 128 rows of the kernel that finishes the gradient: the largest entry of every row, the row's scale, the codes.
-/
module

public import proofs.«01_k».proof.Proof.Exponent
public import proofs.«01_k».proof.Proof.Gen.KernelFinIdeal.Skeleton

@[expose] public section

set_option maxRecDepth 16384

noncomputable section

namespace Cert.KernelFinIdeal.Value

open Cert.KernelFinIdeal Cert.KernelFinIdeal.Gen Idealize.ShloMosaic Idealize.ShloMosaic.TcCoe Idealize.SL.Sem
open Cert.Proof

/-- The largest entry of every row of ten tiles, times a constant, in every lane. -/
def peak (v : Fin 10 → FVec Ideal S128x128 .f32) : FVec Ideal S128x128 .f32 :=
  mulf (broadcastTo S128x128 (shapeCast S128x1 (shapeCast S128x1
      (multiReduction .maximumf [1] S128
        (maximumf (maximumf (maximumf (maximumf (maximumf (maximumf (maximumf (maximumf (maximumf (absf (v 0)) (absf (v 1)))
          (absf (v 2))) (absf (v 3))) (absf (v 4))) (absf (v 5))) (absf (v 6))) (absf (v 7))) (absf (v 8))) (absf (v 9)))
        0xFF800000#32 reduces_S128x128_S128 (.inl rfl) rfl) shapeCasts_S128_S128x1) shapeCasts_S128x1_S128x1)
      broadcasts_S128x1_S128x128)
    (broadcast S128x128 (Scalar.ofBits .f32 0x37924925#32))

/-- One step of the search for the exponent field. -/
def stepV (a : FVec Ideal S128x128 .f32) (b : BitVec 32) (e : IVec S128x128 32) : IVec S128x128 32 :=
  select (cmpf .oge a (bitcastToFloat .f32 (shli (addi e (broadcast S128x128 b)) (broadcast S128x128 23#32))))
    (addi e (broadcast S128x128 b)) e

/-- The exponent of every row. -/
def expoV (a : FVec Ideal S128x128 .f32) : IVec S128x128 32 :=
  select (cmpf .oeq a (broadcast S128x128 (Scalar.ofBits .f32 0x00000000#32))) (broadcast S128x128 0#32)
    (subi (stepV a 1#32 (stepV a 2#32 (stepV a 4#32 (stepV a 8#32 (stepV a 16#32 (stepV a 32#32 (stepV a 64#32
      (stepV a 128#32 (broadcast S128x128 0#32))))))))) (broadcast S128x128 126#32))

/-- The scale of every row. -/
def scaleV (a : FVec Ideal S128x128 .f32) : FVec Ideal S128x128 .f32 :=
  bitcastToFloat .f32 (shli (addi (expoV a) (broadcast S128x128 127#32)) (broadcast S128x128 23#32))

/-- The inverse of the scale of every row. -/
def invV (a : FVec Ideal S128x128 .f32) : FVec Ideal S128x128 .f32 :=
  bitcastToFloat .f32 (shli (subi (broadcast S128x128 127#32) (expoV a)) (broadcast S128x128 23#32))

/-- The codes of one tile. -/
def codesV (v : FVec Ideal S128x128 .f32) (a : FVec Ideal S128x128 .f32) : FVec Ideal S128x128 .fp8e5m2 :=
  truncf .fp8e5m2 (minimumf (broadcast S128x128 (Scalar.ofBits .f32 0x47600000#32))
    (maximumf (broadcast S128x128 (Scalar.ofBits .f32 0xC7600000#32)) (mulf v (invV a)))) bitsLt_fp8e5m2_f32

/-- A shift by 23 places. -/
theorem shli_23 (x : BitVec 32) : IntOp.shli ArithUnit.vector x 23#32 = x <<< 23 := rfl

/-- A step of the search, element by element. -/
theorem stepV_apply (a : FVec Ideal S128x128 .f32) (b : BitVec 32) (e : IVec S128x128 32) (i : S128x128.Idx) :
    stepV a b e i = step (a i) b (e i) := by
  pointwise [stepV, step]
  rfl

/-- The exponents, element by element. -/
theorem expoV_apply (a : FVec Ideal S128x128 .f32) (i : S128x128.Idx) : expoV a i = expo (a i) := by
  pointwise [expoV, expo, field]
  simp only [stepV_apply]
  rfl

/-- The scales, element by element. -/
theorem scaleV_apply (a : FVec Ideal S128x128 .f32) (i : S128x128.Idx) : scaleV a i = scaleWord (a i) := by
  pointwise [scaleV, scaleWord]
  rw [expoV_apply]
  rfl

/-- The inverses of the scales, element by element. -/
theorem invV_apply (a : FVec Ideal S128x128 .f32) (i : S128x128.Idx) : invV a i = invWord (a i) := by
  pointwise [invV, invWord]
  rw [expoV_apply]
  rfl

/-- The codes, element by element. -/
theorem codesV_apply (v a : FVec Ideal S128x128 .f32) (i : S128x128.Idx) :
    codesV v a i = min (Ideal.ofBits .f32 0x47600000#32) (max (Ideal.ofBits .f32 0xC7600000#32) (v i * invWord (a i))) := by
  pointwise [codesV]
  rw [invV_apply]

/-- A fold of maxima from minus infinity is a supremum. -/
theorem fold_max {n : ℕ} (f : Fin n → EReal) : Finset.fold max (Ideal.ofBits .f32 0xFF800000#32) f Finset.univ = ⨆ x, f x := by
  have h : Ideal.ofBits .f32 0xFF800000#32 = ⊥ := by simp [Ideal.ofBits, Ideal.ieee]
  rw [h]
  exact Finset.sup_univ_eq_iSup f

/-- A chain of ten maxima is a supremum over the ten. -/
theorem iSup_ten (f : Fin 10 → EReal) :
    max (max (max (max (max (max (max (max (max (f 0) (f 1)) (f 2)) (f 3)) (f 4)) (f 5)) (f 6)) (f 7)) (f 8)) (f 9) = ⨆ h, f h := by
  refine le_antisymm ?_ (iSup_le fun h => ?_)
  · simp only [max_le_iff, le_iSup, and_self]
  · fin_cases h <;> simp [le_max_iff]

/-- The largest entry of a row over the ten tiles, times the constant. -/
theorem peak_apply (v : Fin 10 → FVec Ideal S128x128 .f32) (i : S128x128.Idx) :
    peak v i = (⨆ f : Fin 128, ⨆ h : Fin 10, max (v h (ix2 (i 0) f)) (-(v h (ix2 (i 0) f)))) * Ideal.ofBits .f32 0x37924925#32 := by
  pointwise [peak]
  rw [fold_max]
  congr 2
  funext f
  exact iSup_ten fun h => max (v h (ix2 (i 0) f)) (-(v h (ix2 (i 0) f)))

end Cert.KernelFinIdeal.Value

end
-- ==== Proof.KernelFinRows.lean ====
/-
  The kernel that finishes the gradient forms two products of sums split in three parts. Here are the sums, the parts, the two
  products and the tiles made from them, with their values element by element.
-/
module

public import proofs.«01_k».proof.Proof.KernelFinTile
public import proofs.«01_k».proof.Proof.Gen.KernelFinIdeal.Skeleton

@[expose] public section

set_option maxRecDepth 16384

noncomputable section

namespace Cert.KernelFinIdeal.Value

open Cert.KernelFinIdeal Cert.KernelFinIdeal.Gen Idealize.ShloMosaic Idealize.ShloMosaic.TcCoe Idealize.SL.Sem

/-- The sum of six parts. -/
def sumV (p : Fin 6 → Vec Ideal S1x10x1280 .f32) : FVec Ideal S10x1280 .f32 :=
  addf (addf (addf (addf (addf (shapeCast S10x1280 (p 0) shapeCasts_S1x10x1280_S10x1280)
    (shapeCast S10x1280 (p 1) shapeCasts_S1x10x1280_S10x1280)) (shapeCast S10x1280 (p 2) shapeCasts_S1x10x1280_S10x1280))
    (shapeCast S10x1280 (p 3) shapeCasts_S1x10x1280_S10x1280)) (shapeCast S10x1280 (p 4) shapeCasts_S1x10x1280_S10x1280))
    (shapeCast S10x1280 (p 5) shapeCasts_S1x10x1280_S10x1280)

/-- The sum of six parts, element by element. -/
theorem sumV_apply (p : Fin 6 → Vec Ideal S1x10x1280 .f32) (i : S10x1280.Idx) :
    sumV p i = (∑ q : Fin 6, p q (ix3 0 (i 0) (i 1)) : EReal) := by
  pointwise [sumV]
  rw [Fin.sum_univ_six]

/-- The rounding of a value to fewer bits, read back. -/
def roundV {s : Shape} (v : FVec Ideal s .f32) : FVec Ideal s .f32 :=
  extf .f32 (truncf .bf16 v bitsLt_bf16_f32) bitsLt_bf16_f32

/-- What a rounding leaves. -/
def restV {s : Shape} (v : FVec Ideal s .f32) : FVec Ideal s .f32 := subf v (roundV v)

/-- A value split in three parts: its rounding, the rounding of what that leaves, and the rounding of what that leaves. -/
def splitV {s : Shape} (v : FVec Ideal s .f32) : Fin 3 → FVec Ideal s .f32 :=
  ![roundV v, roundV (restV v), roundV (restV (restV v))]

/-- A finite value is its own first part; the other two are zero. -/
theorem splitV_apply {s : Shape} (v : FVec Ideal s .f32) (k : Fin 3) (i : s.Idx) (h : ∃ r : ℝ, v i = (r : EReal)) :
    splitV v k i = if k = 0 then v i else (0 : EReal) := by
  obtain ⟨r, hr⟩ := h
  have h0 : (v i : EReal) - v i = 0 := by rw [hr, ← EReal.coe_sub, sub_self, EReal.coe_zero]
  fin_cases k
  · rfl
  · exact h0
  · show ((v i : EReal) - v i) - ((v i : EReal) - v i) = 0
    rw [h0, sub_zero]

/-- A row of ten lies in the ten. -/
theorem slicesRow (h : Fin 10) : S10x1280.Slices ![h.val, 0] S1x1280 := by
  revert h
  decide

/-- One row of ten. -/
def rowV (a : FVec Ideal S10x1280 .f32) (h : Fin 10) : FVec Ideal S1x1280 .f32 :=
  extractStridedSlice S1x1280 ![h.val, 0] a (slicesRow h)

/-- One row of ten, element by element. -/
theorem rowV_apply (a : FVec Ideal S10x1280 .f32) (h : Fin 10) (i : S1x1280.Idx) : rowV a h i = a (ix2 h (i 1)) := by
  idx_vars i
  pointwise [rowV]

/-- Which part of the left factor a term of a product of two split values takes. -/
def leftPart : Fin 8 → Fin 3 := ![0, 0, 1, 0, 1, 2, 1, 2]

/-- Which part of the right factor a term of a product of two split values takes. -/
def rightPart : Fin 8 → Fin 3 := ![0, 1, 0, 2, 1, 0, 2, 1]

/-- The head of a row of 160. -/
def headR (k : Fin 160) : Fin 10 := ⟨k.val / 16, by omega⟩

/-- Whether a row of 160 belongs to the source or to the destination. -/
def sideR (k : Fin 160) : Fin 2 := ⟨k.val % 16 / 8, by omega⟩

/-- Which of the eight terms a row of 160 is. -/
def termR (k : Fin 160) : Fin 8 := ⟨k.val % 8, by omega⟩

/-- A row of the left factor. -/
def leftRow (A : Fin 2 → FVec Ideal S10x1280 .f32) (k : Fin 160) : FVec Ideal S1x1280 .f32 :=
  splitV (rowV (A (sideR k)) (headR k)) (leftPart (termR k))

/-- A hundred and sixty rows make the left factor. -/
theorem concatenatesLeft : Shape.Concatenates (List.ofFn fun _ : Fin 160 => S1x1280) S160x1280 0 := by
  decide +kernel

/-- The left factor. -/
def leftV (A : Fin 2 → FVec Ideal S10x1280 .f32) : FVec Ideal S160x1280 .f32 :=
  concatenate S160x1280 0 (List.ofFn fun k : Fin 160 => (⟨S1x1280, leftRow A k⟩ : (s : Shape) × (s.Idx → EReal))) concatenatesLeft

/-- The product of the left factor, transposed, and the right factor. -/
def outerV (A : Fin 2 → FVec Ideal S10x1280 .f32) (R : Vec Ideal S160x1280 .f32) : FVec Ideal S1280x1280 .f32 :=
  matmul (φ₁ := .bf16) (φ₂ := .bf16) dot_S160x1280_S160x1280_S1280x1280_0_0_1_1_n_n none (truncf .bf16 (leftV A) bitsLt_bf16_f32)
    (truncf .bf16 R bitsLt_bf16_f32) (constant S1280x1280 .f32 0x00000000#32)

/-- The left factor, element by element. -/
theorem leftV_apply (A : Fin 2 → FVec Ideal S10x1280 .f32) (hA : ∀ s i, ∃ r : ℝ, A s i = (r : EReal)) (k : Fin 160) (r : Fin 1280) :
    leftV A (ix2 k r) = if leftPart (termR k) = 0 then A (sideR k) (ix2 (headR k) r) else (0 : EReal) := by
  refine (concatenate_ofFn_unit_apply (t := S160x1280) (s₁ := S1x1280) 0 (leftRow A) concatenatesLeft rfl rfl (ix2 k r) k rfl
    (ix2 0 r) fun b hb => ?_).trans ?_
  · fin_cases b
    · exact absurd rfl hb
    · rfl
  · rw [leftRow, splitV_apply, rowV_apply]
    · rfl
    · rw [rowV_apply]
      exact hA _ _

/-- What the right factor holds: the parts of a head's two rows in the columns of that head, zero elsewhere. -/
def rightE (B : Fin 2 → Vec Ideal S10x128 .f32) (k : Fin 160) (c : Fin 1280) : EReal :=
  if k.val / 16 = c.val / 128 ∧ rightPart (termR k) = 0 then B (sideR k) (ix2 (headR k) ⟨c.val % 128, by omega⟩) else 0

/-- A sum over 160 rows whose terms vanish off one head and off two of its sixteen rows. -/
theorem sum_rows (g : Fin 160 → EReal) (h : Fin 10) (hg : ∀ k, ¬(k.val / 16 = h.val ∧ k.val % 8 = 0) → g k = 0) :
    ∑ k, g k = g ⟨16 * h.val, by omega⟩ + g ⟨16 * h.val + 8, by omega⟩ := by
  have hne : (⟨16 * h.val, by omega⟩ : Fin 160) ≠ ⟨16 * h.val + 8, by omega⟩ := by
    intro e
    have := congrArg Fin.val e
    simp at this
  rw [← Finset.sum_pair hne]
  refine (Finset.sum_subset (Finset.subset_univ _) fun k _ hk => hg k fun ⟨h1, h2⟩ => hk ?_).symm
  simp only [Finset.mem_insert, Finset.mem_singleton, Fin.ext_iff]
  omega

/-- Only the first of the eight terms has the first parts of both factors. -/
theorem parts_zero (k : Fin 160) : (leftPart (termR k) = 0 ∧ rightPart (termR k) = 0) ↔ k.val % 8 = 0 := by
  have h : ∀ t : Fin 8, (leftPart t = 0 ∧ rightPart t = 0) ↔ t.val = 0 := by decide
  exact h (termR k)

/-- The product, element by element: the source's term and the destination's. -/
theorem outerV_apply (A : Fin 2 → FVec Ideal S10x1280 .f32) (B : Fin 2 → Vec Ideal S10x128 .f32) (R : Vec Ideal S160x1280 .f32)
    (hA : ∀ s i, ∃ r : ℝ, A s i = (r : EReal)) (hR : ∀ k c, R (ix2 k c) = rightE B k c) (r : Fin 1280) (h : Fin 10) (f : Fin 128)
    (c : Fin 1280) (hc : c.val = 128 * h.val + f.val) :
    outerV A R (ix2 r c) = (A 0 (ix2 h r) * B 0 (ix2 h f) + A 1 (ix2 h r) * B 1 (ix2 h f) : EReal) := by
  have hd : c.val / 128 = h.val := by omega
  have hm : c.val % 128 = f.val := by omega
  pointwise [outerV]
  refine (sum_rows _ h fun k hk => ?_).trans ?_
  · rw [leftV_apply A hA, hR, rightE]
    by_cases h1 : leftPart (termR k) = 0
    · rw [if_neg (show ¬(k.val / 16 = c.val / 128 ∧ rightPart (termR k) = 0) from fun ⟨h2, h3⟩ =>
        hk ⟨h2.trans hd, (parts_zero k).mp ⟨h1, h3⟩⟩), mul_zero]
    · rw [if_neg h1, zero_mul]
  · have e : ∀ (k : Fin 160) (s : Fin 2), k.val / 16 = h.val → k.val % 8 = 0 → k.val % 16 / 8 = s.val →
        (leftV A (ix2 k r) * R (ix2 k c) : EReal) = A s (ix2 h r) * B s (ix2 h f) := by
      intro k s h1 h2 h3
      have hp := (parts_zero k).mpr h2
      rw [leftV_apply A hA, hR, rightE, if_pos hp.1, if_pos ⟨h1.trans hd.symm, hp.2⟩]
      have e1 : sideR k = s := Fin.ext h3
      have e2 : headR k = h := Fin.ext h1
      have e3 : (⟨c.val % 128, by omega⟩ : Fin 128) = f := Fin.ext hm
      rw [e1, e2, e3]
    exact congrArg₂ (· + ·) (e _ 0 (by show 16 * h.val / 16 = _; omega) (by show 16 * h.val % 8 = _; omega)
      (by show 16 * h.val % 16 / 8 = 0; omega))
      (e _ 1 (by show (16 * h.val + 8) / 16 = _; omega) (by show (16 * h.val + 8) % 8 = _; omega)
      (by show (16 * h.val + 8) % 16 / 8 = 1; omega))

/-- A tile of the outer product lies in it. -/
theorem slicesOuter (i h : Fin 10) : S1280x1280.Slices ![128 * i.val, 128 * h.val] S128x128 := by
  revert i h
  decide

/-- The tile of 128 rows number `i` and of head `h`: what was there plus the product. -/
def tileV (O : FVec Ideal S1280x1280 .f32) (D : Fin 10 → Fin 10 → Vec Ideal S1x128x128 .f32) (i h : Fin 10) :
    FVec Ideal S128x128 .f32 :=
  addf (shapeCast S128x128 (D i h) shapeCasts_S1x128x128_S128x128)
    (extractStridedSlice S128x128 ![128 * i.val, 128 * h.val] O (slicesOuter i h))

/-- The tile, element by element. -/
theorem tileV_apply (O : FVec Ideal S1280x1280 .f32) (D : Fin 10 → Fin 10 → Vec Ideal S1x128x128 .f32) (i h : Fin 10)
    (x : S128x128.Idx) (r c : Fin 1280) (hr : r.val = 128 * i.val + (x 0 : ℕ)) (hc : c.val = 128 * h.val + (x 1 : ℕ)) :
    tileV O D i h x = (D i h (ix3 0 (x 0) (x 1)) + O (ix2 r c) : EReal) := by
  pointwise [tileV]
  congr 1
  congr 1
  blk_ext

/-- The eight rows of the left factor of the second product, for one head. -/
def rowsV (A : Fin 2 → FVec Ideal S10x1280 .f32) (s : Vec Ideal S1x1280 .f32) (h : Fin 10) : Fin 8 → FVec Ideal S1x1280 .f32 :=
  ![splitV (mulf (rowV (A 0) h) s) 0, splitV (mulf (rowV (A 0) h) s) 1, splitV (mulf (rowV (A 0) h) s) 2,
    splitV (mulf (rowV (A 1) h) s) 0, splitV (mulf (rowV (A 1) h) s) 1, splitV (mulf (rowV (A 1) h) s) 2,
    splitV (mulf (rowV (A 0) h) s) 0, splitV (mulf (rowV (A 0) h) s) 1]

/-- Eight rows make the left factor of the second product. -/
theorem concatenatesRows : Shape.Concatenates (List.ofFn fun _ : Fin 8 => S1x1280) S8x1280 0 := by
  decide

/-- The left factor of the second product, for one head. -/
def rowsCat (A : Fin 2 → FVec Ideal S10x1280 .f32) (s : Vec Ideal S1x1280 .f32) (h : Fin 10) : FVec Ideal S8x1280 .f32 :=
  concatenate S8x1280 0 (List.ofFn fun k : Fin 8 => (⟨S1x1280, rowsV A s h k⟩ : (s : Shape) × (s.Idx → EReal))) concatenatesRows

/-- The second product of one head, added to what was there. -/
def stepD (A : Fin 2 → FVec Ideal S10x1280 .f32) (s : Vec Ideal S1x1280 .f32) (h : Fin 10) (old : Vec Ideal S1x8x128 .f32)
    (x : Vec Ideal S1x1280x128 .fp8e4m3) : FVec Ideal S1x8x128 .f32 :=
  shapeCast S1x8x128 (addf (shapeCast S8x128 old shapeCasts_S1x8x128_S8x128)
    (matmul (φ₁ := .bf16) (φ₂ := .bf16) dot_S8x1280_S1280x128_S8x128_1_0_0_1_n_n none
      (truncf .bf16 (rowsCat A s h) bitsLt_bf16_f32)
      (extf .bf16 (shapeCast S1280x128 x shapeCasts_S1x1280x128_S1280x128) bitsLt_fp8e4m3_bf16)
      (constant S8x128 .f32 0x00000000#32))) shapeCasts_S8x128_S1x8x128

/-- The second product, element by element, the left factor's rows named. -/
theorem stepD_apply (A : Fin 2 → FVec Ideal S10x1280 .f32) (s : Vec Ideal S1x1280 .f32) (h : Fin 10) (old : Vec Ideal S1x8x128 .f32)
    (x : Vec Ideal S1x1280x128 .fp8e4m3) (k : Fin 8) (f : Fin 128) :
    stepD A s h old x (ix3 0 k f)
      = (old (ix3 0 k f) + ∑ r : Fin 1280, rowsV A s h k (ix2 0 r) * x (ix3 0 r f) : EReal) := by
  have e : ∀ r : Fin 1280, rowsCat A s h (ix2 k r) = rowsV A s h k (ix2 0 r) := fun r => by
    refine concatenate_ofFn_unit_apply (t := S8x1280) (s₁ := S1x1280) 0 (rowsV A s h) concatenatesRows rfl rfl (ix2 k r) k rfl
      (ix2 0 r) fun b hb => ?_
    fin_cases b
    · exact absurd rfl hb
    · rfl
  pointwise [stepD]
  congr 1
  exact Finset.sum_congr rfl fun r _ => by rw [e]

end Cert.KernelFinIdeal.Value

end
-- ==== Proof.KernelFinPieces.lean ====
/-
  The stores of one grid point of the kernel that finishes the gradient, as families of tiles.
-/
module

public import proofs.«01_k».proof.Proof.KernelFinRows
public import proofs.«01_k».proof.Proof.Gen.KernelFinIdeal.Frame

@[expose] public section

set_option maxRecDepth 16384

noncomputable section

namespace Cert.KernelFinIdeal.Value

open Cert.KernelFinIdeal Cert.KernelFinIdeal.Gen Idealize.ShloMosaic Idealize.ShloMosaic.TcCoe Idealize.SL.Sem

/-- A tile of the gradient lies in its block. -/
theorem inbD (i h : Fin 10) :
    ∀ a, (![h.val, 128 * i.val, 0] : Fin 3 → Nat) a + S1x128x128.size a ≤ S10x1280x128.size a := by
  revert i h
  decide

/-- A partial sum lies in its block. -/
theorem inbP (q : Fin 6) : ∀ a, (![q.val, 0, 0] : Fin 3 → Nat) a + S1x10x1280.size a ≤ S6x10x1280.size a := by
  revert q
  decide

/-- A row of scales lies in its block. -/
theorem inbS (h : Fin 10) : ∀ a, (![h.val, 0] : Fin 2 → Nat) a + S1x1280.size a ≤ S10x1280.size a := by
  revert h
  decide

/-- The codes of one head lie in their block. -/
theorem inbH (h : Fin 10) : ∀ a, (![h.val, 0, 0] : Fin 3 → Nat) a + S1x1280x128.size a ≤ S10x1280x128.size a := by
  revert h
  decide

/-- The running sums of one head lie among those of all. -/
theorem inbO (h : Fin 10) : ∀ a, (![h.val, 0, 0] : Fin 3 → Nat) a + S1x8x128.size a ≤ S10x8x128.size a := by
  revert h
  decide

/-- A row of the right factor lies among the ten. -/
theorem inbB (h : Fin 10) : ∀ a, (![h.val, 0] : Fin 2 → Nat) a + S1x128.size a ≤ S10x128.size a := by
  revert h
  decide

/-- A tile of the codes lies in its block. -/
theorem inbC (i h : Fin 10) : ∀ a, (![128 * i.val, 128 * h.val] : Fin 2 → Nat) a + S128x128.size a ≤ S1280x1280.size a := by
  revert i h
  decide

/-- A tile of the scales lies in its block. -/
theorem inbL (i : Fin 10) : ∀ a, (![0, 128 * i.val] : Fin 2 → Nat) a + S8x128.size a ≤ S8x1280.size a := by
  revert i
  decide

/-- The rows of one head lie in the right factor. -/
theorem inbR (h : Fin 10) : ∀ a, (![16 * h.val, 128 * h.val] : Fin 2 → Nat) a + S16x128.size a ≤ S160x1280.size a := by
  revert h
  decide

/-- A row of the last output lies in it. -/
theorem inbA (s : Fin 2) (h : Fin 10) : ∀ a, (![s.val, h.val, 0] : Fin 3 → Nat) a + S1x1x128.size a ≤ S2x10x128.size a := by
  revert s h
  decide

/-- The tiles are stored row by row; the last store comes first in the list. -/
def tileOf (k : Fin 100) : Fin 10 := ⟨9 - k.val / 10, by omega⟩

/-- The head of a stored tile. -/
def headOf (k : Fin 100) : Fin 10 := ⟨9 - k.val % 10, by omega⟩

/-- Ten stores, the last first. -/
def tenOf (k : Fin 10) : Fin 10 := ⟨9 - k.val, by omega⟩

/-- The stores of the codes. -/
def codesPieces (O : FVec Ideal S1280x1280 .f32) (D : Fin 10 → Fin 10 → Vec Ideal S1x128x128 .f32) :
    List (View.Piece (Elt Ideal) S1280x1280 .fp8e5m2) :=
  List.ofFn fun k : Fin 100 =>
    ⟨Rect.unit ![128 * (tileOf k).val, 128 * (headOf k).val] S128x128.size (inbC (tileOf k) (headOf k)),
      codesV (tileV O D (tileOf k) (headOf k)) (peak (tileV O D (tileOf k)))⟩

/-- Eight rows of a transposed tile. -/
def scalesV (a : FVec Ideal S128x128 .f32) : FVec Ideal S8x128 .f32 :=
  extractStridedSlice S8x128 ![0, 0] (transpose S128x128 [1, 0] a transposes_S128x128_p1_0_S128x128)
    slices_S128x128_o0_0_S8x128

/-- The stores of the scales. -/
def scalesPieces (O : FVec Ideal S1280x1280 .f32) (D : Fin 10 → Fin 10 → Vec Ideal S1x128x128 .f32) :
    List (View.Piece (Elt Ideal) S8x1280 .f32) :=
  List.ofFn fun k : Fin 10 => ⟨Rect.unit ![0, 128 * (tenOf k).val] S8x128.size (inbL (tenOf k)),
    scalesV (scaleV (peak (tileV O D (tenOf k))))⟩

/-- The stores of the second product. -/
def datPieces (P : Fin 10 → FVec Ideal S1x8x128 .f32) : List (View.Piece (Elt Ideal) S10x8x128 .f32) :=
  List.ofFn fun k : Fin 10 => ⟨Rect.unit ![(tenOf k).val, 0, 0] S1x8x128.size (inbO (tenOf k)), P (tenOf k)⟩

/-- A row of the block of the right factor that belongs to one head. -/
def rightRow (b : Fin 2 → Vec Ideal S1x128 .f32) (k : Fin 16) : FVec Ideal S1x128 .f32 :=
  splitV (s := S1x128) (b ⟨k.val / 8, by omega⟩) (rightPart ⟨k.val % 8, by omega⟩)

/-- Sixteen rows make the block. -/
theorem concatenatesRight : Shape.Concatenates (List.ofFn fun _ : Fin 16 => S1x128) S16x128 0 := by
  decide

/-- The block of the right factor that belongs to one head. -/
def rightV (b : Fin 2 → Vec Ideal S1x128 .f32) : FVec Ideal S16x128 .f32 :=
  shapeCast S16x128 (concatenate S16x128 0
    (List.ofFn fun k : Fin 16 => (⟨S1x128, rightRow b k⟩ : (s : Shape) × (s.Idx → EReal))) concatenatesRight)
    shapeCasts_S16x128_S16x128

/-- The stores of the right factor, over zeros. -/
def rightPieces (b : Fin 10 → Fin 2 → Vec Ideal S1x128 .f32) : List (View.Piece (Elt Ideal) S160x1280 .f32) :=
  List.ofFn fun k : Fin 10 => ⟨Rect.unit ![16 * (tenOf k).val, 128 * (tenOf k).val] S16x128.size (inbR (tenOf k)),
    rightV (b (tenOf k))⟩

/-- Three rows of eight are summed, the first three or the next three. -/
def threeV (o : Vec Ideal S1x8x128 .f32) : Fin 2 → FVec Ideal S1x1x128 .f32 :=
  ![shapeCast S1x1x128 (addf (addf
      (extractStridedSlice S1x128 ![0, 0] (shapeCast S8x128 o shapeCasts_S1x8x128_S8x128) slices_S8x128_o0_0_S1x128)
      (extractStridedSlice S1x128 ![1, 0] (shapeCast S8x128 o shapeCasts_S1x8x128_S8x128) slices_S8x128_o1_0_S1x128))
      (extractStridedSlice S1x128 ![2, 0] (shapeCast S8x128 o shapeCasts_S1x8x128_S8x128) slices_S8x128_o2_0_S1x128))
      shapeCasts_S1x128_S1x1x128,
    shapeCast S1x1x128 (addf (addf
      (extractStridedSlice S1x128 ![3, 0] (shapeCast S8x128 o shapeCasts_S1x8x128_S8x128) slices_S8x128_o3_0_S1x128)
      (extractStridedSlice S1x128 ![4, 0] (shapeCast S8x128 o shapeCasts_S1x8x128_S8x128) slices_S8x128_o4_0_S1x128))
      (extractStridedSlice S1x128 ![5, 0] (shapeCast S8x128 o shapeCasts_S1x8x128_S8x128) slices_S8x128_o5_0_S1x128))
      shapeCasts_S1x128_S1x1x128]

/-- The head of a store of the last output. -/
def lastHead (k : Fin 20) : Fin 10 := ⟨9 - k.val / 2, by omega⟩

/-- The side of a store of the last output. -/
def lastSide (k : Fin 20) : Fin 2 := ⟨1 - k.val % 2, by omega⟩

/-- The stores of the last output. -/
def lastPieces (o : Fin 10 → Vec Ideal S1x8x128 .f32) : List (View.Piece (Elt Ideal) S2x10x128 .f32) :=
  List.ofFn fun k : Fin 20 => ⟨Rect.unit ![(lastSide k).val, (lastHead k).val, 0] S1x1x128.size (inbA (lastSide k) (lastHead k)),
    threeV (o (lastHead k)) (lastSide k)⟩

variable (c : Dev nD) (i : grid0.Coords) (arg1 : Memref sig .tc .vmem S10x1280x128 .f32) (harg1 : arg1.IsWhole)
  (arg2 : Memref sig .tc .vmem S10x1280x128 .fp8e4m3) (harg2 : arg2.IsWhole) (arg3 : Memref sig .tc .vmem S10x1280 .f32)
  (harg3 : arg3.IsWhole) (arg4 : Memref sig .tc .vmem S6x10x1280 .f32) (harg4 : arg4.IsWhole)
  (arg5 : Memref sig .tc .vmem S6x10x1280 .f32) (harg5 : arg5.IsWhole) (arg6 : Memref sig .tc .vmem S10x128 .f32)
  (harg6 : arg6.IsWhole) (arg7 : Memref sig .tc .vmem S10x128 .f32) (harg7 : arg7.IsWhole)
  (arg8 : Memref sig .tc .vmem S1280x1280 .fp8e5m2) (harg8 : arg8.IsWhole) (arg9 : Memref sig .tc .vmem S8x1280 .f32)
  (harg9 : arg9.IsWhole) (arg10 : Memref sig .tc .vmem S2x10x128 .f32) (harg10 : arg10.IsWhole)
  (arg11 : Memref sig .tc .vmem S160x1280 .f32) (harg11 : arg11.IsWhole) (arg12 : Memref sig .tc .vmem S10x8x128 .f32)
  (harg12 : arg12.IsWhole) (x0 : Vec Ideal S10x1280x128 .f32) (x1 : Vec Ideal S10x1280x128 .fp8e4m3)
  (x2 : Vec Ideal S10x1280 .f32) (x3 : Vec Ideal S6x10x1280 .f32) (x4 : Vec Ideal S6x10x1280 .f32)
  (x5 : Vec Ideal S10x128 .f32) (x6 : Vec Ideal S10x128 .f32) (xs0 : Vec Ideal S160x1280 .f32)
  (xs1 : Vec Ideal S10x8x128 .f32)

/-- The loads of the tiles of the gradient. -/
def rawD (i h : Fin 10) : Vec Ideal S1x128x128 .f32 :=
  View.readAt (Elt Ideal) arg1.view (Rect.unit (s := S10x1280x128) ![h.val, 128 * i.val, 0] S1x128x128.size (inbD i h)).toLoadRect
    (harg1.unread x0)

/-- The loads of the codes of the activations. -/
def rawH (h : Fin 10) : Vec Ideal S1x1280x128 .fp8e4m3 :=
  View.readAt (Elt Ideal) arg2.view (Rect.unit (s := S10x1280x128) ![h.val, 0, 0] S1x1280x128.size (inbH h)).toLoadRect
    (harg2.unread x1)

/-- The loads of the scales of the activations. -/
def rawS (h : Fin 10) : Vec Ideal S1x1280 .f32 :=
  View.readAt (Elt Ideal) arg3.view (Rect.unit (s := S10x1280) ![h.val, 0] S1x1280.size (inbS h)).toLoadRect (harg3.unread x2)

/-- The loads of the partial sums. -/
def rawP (arg4 : Memref sig .tc .vmem S6x10x1280 .f32) (harg4 : arg4.IsWhole) (x3 : Vec Ideal S6x10x1280 .f32) (q : Fin 6) :
    Vec Ideal S1x10x1280 .f32 :=
  View.readAt (Elt Ideal) arg4.view (Rect.unit (s := S6x10x1280) ![q.val, 0, 0] S1x10x1280.size (inbP q)).toLoadRect
    (harg4.unread x3)

/-- The two sums of a grid point, the source's and the destination's. -/
def rawA : Fin 2 → FVec Ideal S10x1280 .f32 := ![sumV (rawP arg4 harg4 x3), sumV (rawP arg5 harg5 x4)]

/-- The loads of the right factor's rows. -/
def rawB (h : Fin 10) : Fin 2 → Vec Ideal S1x128 .f32 :=
  ![View.readAt (Elt Ideal) arg6.view (Rect.unit (s := S10x128) ![h.val, 0] S1x128.size (inbB h)).toLoadRect (harg6.unread x5),
    View.readAt (Elt Ideal) arg7.view (Rect.unit (s := S10x128) ![h.val, 0] S1x128.size (inbB h)).toLoadRect (harg7.unread x6)]

/-- The loads of the running sums. -/
def rawO (h : Fin 10) : Vec Ideal S1x8x128 .f32 :=
  View.readAt (Elt Ideal) arg12.view (Rect.unit (s := S10x8x128) ![h.val, 0, 0] S1x8x128.size (inbO h)).toLoadRect
    (harg12.unread xs1)

/-- The load of the right factor. -/
def rawR : Vec Ideal S160x1280 .f32 :=
  View.readAt (Elt Ideal) arg11.view
    (Rect.unit (s := S160x1280) ![0, 0] S160x1280.size inb_S160x1280_S160x1280_0_0).toLoadRect (harg11.unread xs0)

/-- The running sums that the first grid point reads back. -/
def oldA (h : Fin 10) : Vec Ideal S1x8x128 .f32 :=
  (![kernelRun0_A.sl.v86 c arg12, kernelRun0_A.sl.v145 c arg2 harg2 arg3 harg3 arg4 harg4 arg5 harg5 arg12 x1 x2 x3 x4,
    kernelRun0_A.sl.v204 c arg2 harg2 arg3 harg3 arg4 harg4 arg5 harg5 arg12 x1 x2 x3 x4,
    kernelRun0_A.sl.v263 c arg2 harg2 arg3 harg3 arg4 harg4 arg5 harg5 arg12 x1 x2 x3 x4,
    kernelRun0_A.sl.v322 c arg2 harg2 arg3 harg3 arg4 harg4 arg5 harg5 arg12 x1 x2 x3 x4,
    kernelRun0_A.sl.v381 c arg2 harg2 arg3 harg3 arg4 harg4 arg5 harg5 arg12 x1 x2 x3 x4,
    kernelRun0_A.sl.v440 c arg2 harg2 arg3 harg3 arg4 harg4 arg5 harg5 arg12 x1 x2 x3 x4,
    kernelRun0_A.sl.v499 c arg2 harg2 arg3 harg3 arg4 harg4 arg5 harg5 arg12 x1 x2 x3 x4,
    kernelRun0_A.sl.v558 c arg2 harg2 arg3 harg3 arg4 harg4 arg5 harg5 arg12 x1 x2 x3 x4,
    kernelRun0_A.sl.v617 c arg2 harg2 arg3 harg3 arg4 harg4 arg5 harg5 arg12 x1 x2 x3 x4] : Fin 10 → Vec Ideal S1x8x128 .f32) h

/-- The running sums that the last grid point reads back. -/
def oldC (h : Fin 10) : Vec Ideal S1x8x128 .f32 :=
  (![kernelRun0_C.sl.v2745 c arg2 harg2 arg3 harg3 arg4 harg4 arg5 harg5 arg12 harg12 x1 x2 x3 x4 xs1,
    kernelRun0_C.sl.v2763 c arg2 harg2 arg3 harg3 arg4 harg4 arg5 harg5 arg12 harg12 x1 x2 x3 x4 xs1,
    kernelRun0_C.sl.v2781 c arg2 harg2 arg3 harg3 arg4 harg4 arg5 harg5 arg12 harg12 x1 x2 x3 x4 xs1,
    kernelRun0_C.sl.v2799 c arg2 harg2 arg3 harg3 arg4 harg4 arg5 harg5 arg12 harg12 x1 x2 x3 x4 xs1,
    kernelRun0_C.sl.v c arg2 harg2 arg3 harg3 arg4 harg4 arg5 harg5 arg12 harg12 x1 x2 x3 x4 xs1,
    kernelRun0_C.sl.v2835 c arg2 harg2 arg3 harg3 arg4 harg4 arg5 harg5 arg12 harg12 x1 x2 x3 x4 xs1,
    kernelRun0_C.sl.v2853 c arg2 harg2 arg3 harg3 arg4 harg4 arg5 harg5 arg12 harg12 x1 x2 x3 x4 xs1,
    kernelRun0_C.sl.v2871 c arg2 harg2 arg3 harg3 arg4 harg4 arg5 harg5 arg12 harg12 x1 x2 x3 x4 xs1,
    kernelRun0_C.sl.v2889 c arg2 harg2 arg3 harg3 arg4 harg4 arg5 harg5 arg12 harg12 x1 x2 x3 x4 xs1,
    kernelRun0_C.sl.v2907 c arg2 harg2 arg3 harg3 arg4 harg4 arg5 harg5 arg12 harg12 x1 x2 x3 x4 xs1] : Fin 10 → Vec Ideal S1x8x128 .f32) h

/-- The outer product of the middle kind of grid point. -/
theorem outer_B : kernelRun0_B.sl.r_100 c arg4 harg4 arg5 harg5 arg11 harg11 x3 x4 xs0
    = outerV (rawA arg4 harg4 arg5 harg5 x3 x4) (rawR arg11 harg11 xs0) := rfl

/-- The stores of the codes of the middle kind of grid point. -/
theorem codes_B (hc0 : ¬cond0_0 i) (hc1 : ¬cond0_1 i) :
    (kernelRun0_B (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6 xs0 xs1).1
      = codesPieces (kernelRun0_B.sl.r_100 c arg4 harg4 arg5 harg5 arg11 harg11 x3 x4 xs0) (rawD arg1 harg1 x0) := by
  unfold kernelRun0_B
  dsimp only
  rfl

/-- The stores of the scales of the middle kind of grid point. -/
theorem scales_B (hc0 : ¬cond0_0 i) (hc1 : ¬cond0_1 i) :
    (kernelRun0_B (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6 xs0 xs1).2.1
      = scalesPieces (kernelRun0_B.sl.r_100 c arg4 harg4 arg5 harg5 arg11 harg11 x3 x4 xs0) (rawD arg1 harg1 x0) := by
  unfold kernelRun0_B
  dsimp only
  rfl

/-- The stores of the running sums of the middle kind of grid point. -/
theorem sums_B (hc0 : ¬cond0_0 i) (hc1 : ¬cond0_1 i) :
    (kernelRun0_B (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6 xs0 xs1).2.2.2.2.1
      = datPieces (fun h => stepD (rawA arg4 harg4 arg5 harg5 x3 x4) (rawS arg3 harg3 x2 h) h
        (rawO arg12 harg12 xs1 h) (rawH arg2 harg2 x1 h)) := by
  unfold kernelRun0_B
  dsimp only
  rfl

/-- The outer product of the last kind of grid point. -/
theorem outer_C : kernelRun0_C.sl.r_100 c arg4 harg4 arg5 harg5 arg11 harg11 x3 x4 xs0
    = outerV (rawA arg4 harg4 arg5 harg5 x3 x4) (rawR arg11 harg11 xs0) := rfl

/-- The stores of the codes of the last kind of grid point. -/
theorem codes_C (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6 xs0 xs1).1
      = codesPieces (kernelRun0_C.sl.r_100 c arg4 harg4 arg5 harg5 arg11 harg11 x3 x4 xs0) (rawD arg1 harg1 x0) := by
  unfold kernelRun0_C
  dsimp only
  rfl

/-- The stores of the scales of the last kind of grid point. -/
theorem scales_C (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6 xs0 xs1).2.1
      = scalesPieces (kernelRun0_C.sl.r_100 c arg4 harg4 arg5 harg5 arg11 harg11 x3 x4 xs0) (rawD arg1 harg1 x0) := by
  unfold kernelRun0_C
  dsimp only
  rfl

/-- The stores of the running sums of the last kind of grid point. -/
theorem sums_C (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6 xs0 xs1).2.2.2.2.1
      = datPieces (fun h => stepD (rawA arg4 harg4 arg5 harg5 x3 x4) (rawS arg3 harg3 x2 h) h
        (rawO arg12 harg12 xs1 h) (rawH arg2 harg2 x1 h)) := by
  unfold kernelRun0_C
  dsimp only
  rfl

/-- The stores of the last output, by the last grid point. -/
theorem last_C (hc0 : ¬cond0_0 i) (hc1 : cond0_1 i) :
    (kernelRun0_C (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6 xs0 xs1).2.2.1
      = lastPieces (oldC c arg2 harg2 arg3 harg3 arg4 harg4 arg5 harg5 arg12 harg12 x1 x2 x3 x4 xs1) := by
  unfold kernelRun0_C
  dsimp only
  rfl

/-- The running sums that the last grid point reads back are the ones it has stored. -/
theorem stored_C : kernelRun0_C.sl.HS1_10 (F := Ideal) c arg2 harg2 arg3 harg3 arg4 harg4 arg5 harg5 arg12 harg12 x1 x2 x3 x4 xs1
    = datPieces (fun h => stepD (rawA arg4 harg4 arg5 harg5 x3 x4) (rawS arg3 harg3 x2 h) h
        (rawO arg12 harg12 xs1 h) (rawH arg2 harg2 x1 h)) := rfl

/-- The outer product of the first kind of grid point. -/
theorem outer_A : kernelRun0_A.sl.r_117 c arg4 harg4 arg5 harg5 arg6 harg6 arg7 harg7 arg11 x3 x4 x5 x6
    = outerV (rawA arg4 harg4 arg5 harg5 x3 x4) (kernelRun0_A.sl.v629 c arg6 harg6 arg7 harg7 arg11 x5 x6) := rfl

/-- The stores of the codes of the first kind of grid point. -/
theorem codes_A (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6).1
      = codesPieces (kernelRun0_A.sl.r_117 c arg4 harg4 arg5 harg5 arg6 harg6 arg7 harg7 arg11 x3 x4 x5 x6) (rawD arg1 harg1 x0) := by
  unfold kernelRun0_A
  dsimp only
  rfl

/-- The stores of the scales of the first kind of grid point. -/
theorem scales_A (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6).2.1
      = scalesPieces (kernelRun0_A.sl.r_117 c arg4 harg4 arg5 harg5 arg6 harg6 arg7 harg7 arg11 x3 x4 x5 x6) (rawD arg1 harg1 x0) := by
  unfold kernelRun0_A
  dsimp only
  rfl

/-- The stores of the running sums of the first kind of grid point. -/
theorem sums_A (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6).2.2.2.2.1
      = datPieces (fun h => stepD (rawA arg4 harg4 arg5 harg5 x3 x4) (rawS arg3 harg3 x2 h) h
        (oldA c arg2 harg2 arg3 harg3 arg4 harg4 arg5 harg5 arg12 x1 x2 x3 x4 h) (rawH arg2 harg2 x1 h)) ++ [⟨Rect.unit ![0, 0, 0] S10x8x128.size inb_S10x8x128_S10x8x128_0_0_0, k0_pay11 (F := Ideal)⟩] := by
  unfold kernelRun0_A
  dsimp only
  rfl

end Cert.KernelFinIdeal.Value

end
-- ==== Proof.SpecFin.lean ====
/-
  The values of the kernel that finishes the gradient, as plain functions of the argument arrays over the extended reals: the
  gradient's codes (`finCodes`), its scales (`finScales`) and the two attention gradients (`finAttn`). No program appears here.
-/
module

public import proofs.«01_k».proof.Proof.Exponent
public import Idealize.ShloMosaic.Lib.Pipeline.ValueKit
public import Idealize.ShloMosaic.Lib.Pointwise

@[expose] public section

noncomputable section

namespace Cert.Proof

open Idealize.ShloMosaic

/-- The value is a real number. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A sum of reals is real. -/
theorem IsReal.sum {n : ℕ} (f : Fin n → EReal) (hf : ∀ k, IsReal (f k)) : IsReal (∑ k, f k) := by
  refine Finset.sum_induction f IsReal (fun _ _ => IsReal.add) ⟨0, EReal.coe_zero.symm⟩ fun k _ => hf k

/-- The largest absolute value of a row, times the constant. -/
def peakOf (v : Fin 10 → Fin 128 → EReal) : EReal :=
  (⨆ f : Fin 128, ⨆ h : Fin 10, max (v h f) (-(v h f))) * Ideal.ofBits .f32 0x37924925#32

/-- The head of a column. -/
def headC (c : Fin 1280) : Fin 10 := ⟨c.val / 128, by omega⟩

/-- The feature of a column. -/
def featC (c : Fin 1280) : Fin 128 := ⟨c.val % 128, by omega⟩

/-- The sum of the six parts of node `n`. -/
def partSum (p : Vec Ideal ⟨3, ![30, 10, 2560]⟩ .f32) (n : Fin 12800) (h : Fin 10) : EReal :=
  ∑ q : Fin 6, p (ix3 (⟨n.val / 2560 * 6 + q.val, by omega⟩ : Fin 30) h (⟨n.val % 2560, by omega⟩ : Fin 2560))

/-- The finished gradient: what was there, plus the source's term and the destination's. -/
def finFull (dh : Vec Ideal ⟨3, ![10, 12800, 128]⟩ .f32) (aS aD : Vec Ideal ⟨3, ![30, 10, 2560]⟩ .f32)
    (sS sD : Vec Ideal ⟨2, ![10, 128]⟩ .f32) (n : Fin 12800) (h : Fin 10) (f : Fin 128) : EReal :=
  dh (ix3 h n f) + (partSum aS n h * sS (ix2 h f) + partSum aD n h * sD (ix2 h f))

/-- The codes: each row over its scale, held within the range of the format. -/
def finCodes (dh : Vec Ideal ⟨3, ![10, 12800, 128]⟩ .f32) (aS aD : Vec Ideal ⟨3, ![30, 10, 2560]⟩ .f32)
    (sS sD : Vec Ideal ⟨2, ![10, 128]⟩ .f32) : Vec Ideal ⟨2, ![12800, 1280]⟩ .fp8e5m2 :=
  fun i => min (Ideal.ofBits .f32 0x47600000#32) (max (Ideal.ofBits .f32 0xC7600000#32)
    (Ideal.div (finFull dh aS aD sS sD (i 0) (headC (i 1)) (featC (i 1))) (scaleOf (peakOf (finFull dh aS aD sS sD (i 0))))))

/-- The scales, in eight equal rows: the least power of two above the row's largest absolute value times the constant. -/
def finScales (dh : Vec Ideal ⟨3, ![10, 12800, 128]⟩ .f32) (aS aD : Vec Ideal ⟨3, ![30, 10, 2560]⟩ .f32)
    (sS sD : Vec Ideal ⟨2, ![10, 128]⟩ .f32) : Vec Ideal ⟨2, ![8, 12800]⟩ .f32 :=
  fun i => scaleOf (peakOf (finFull dh aS aD sS sD (i 1)))

/-- The attention gradients, the source's and the destination's: the sums over all nodes against the activations. -/
def finAttn (hc : Vec Ideal ⟨3, ![10, 12800, 128]⟩ .fp8e4m3) (hs : Vec Ideal ⟨2, ![10, 12800]⟩ .f32)
    (aS aD : Vec Ideal ⟨3, ![30, 10, 2560]⟩ .f32) : Vec Ideal ⟨3, ![2, 10, 128]⟩ .f32 :=
  fun i => (∑ n : Fin 12800, (partSum (if (i 0 : ℕ) = 0 then aS else aD) n (i 1) * hs (ix2 (i 1) n)) * hc (ix3 (i 1) n (i 2)) : EReal)

end Cert.Proof

end
-- ==== Proof.KernelFinBlock.lean ====
/-
  What the tiles stored by one grid point of the kernel that finishes the gradient hold, element by element.
-/
module

public import proofs.«01_k».proof.Proof.KernelFinPieces
public import proofs.«01_k».proof.Proof.SpecFin

@[expose] public section

set_option maxRecDepth 16384

noncomputable section

namespace Cert.KernelFinIdeal.Value

open Cert.KernelFinIdeal Cert.KernelFinIdeal.Gen Idealize.ShloMosaic Idealize.ShloMosaic.TcCoe Idealize.SL.Sem
open Cert.Proof (scaleWord invWord peakOf headC featC IsReal)

/-- The sum of the six parts of a row. -/
def aBlk (x : Vec Ideal S6x10x1280 .f32) (h : Fin 10) (r : Fin 1280) : EReal := ∑ q : Fin 6, x (ix3 q h r)

/-- The finished gradient of a row. -/
def fullBlk (x0 : Vec Ideal S10x1280x128 .f32) (x3 x4 : Vec Ideal S6x10x1280 .f32) (x5 x6 : Vec Ideal S10x128 .f32)
    (r : Fin 1280) (h : Fin 10) (f : Fin 128) : EReal :=
  x0 (ix3 h r f) + (aBlk x3 h r * x5 (ix2 h f) + aBlk x4 h r * x6 (ix2 h f))

/-- A code: the value over its row's scale, held within the range of the format. -/
def codeOf (v : Fin 10 → Fin 128 → EReal) (h : Fin 10) (f : Fin 128) : EReal :=
  min (Ideal.ofBits .f32 0x47600000#32) (max (Ideal.ofBits .f32 0xC7600000#32) (v h f * invWord (peakOf v)))

section Stores

variable (O : FVec Ideal S1280x1280 .f32) (D : Fin 10 → Fin 10 → Vec Ideal S1x128x128 .f32)
  (full : Fin 1280 → Fin 10 → Fin 128 → EReal)
  (hf : ∀ (i h : Fin 10) (x : S128x128.Idx) (r : Fin 1280), r.val = 128 * i.val + (x 0 : ℕ) → tileV O D i h x = full r h (x 1))

include hf

/-- The largest entry of a row of a tile. -/
theorem peak_tile (i : Fin 10) (x : S128x128.Idx) (r : Fin 1280) (hr : r.val = 128 * i.val + (x 0 : ℕ)) :
    peak (tileV O D i) x = peakOf (full r) := by
  rw [peak_apply, peakOf]
  have e : ∀ (h : Fin 10) (f : Fin 128), tileV O D i h (ix2 (x 0) f) = full r h f := fun h f => hf i h (ix2 (x 0) f) r hr
  simp only [e]

/-- The codes after all their stores. -/
theorem codes_canon (y : S1280x1280.Idx) :
    View.canon (codesPieces O D) y = codeOf (full (y 0)) (headC (y 1)) (featC (y 1)) := by
  have b0 : (y 0 : ℕ) < 1280 := (y 0).isLt
  have b1 : (y 1 : ℕ) < 1280 := (y 1).isLt
  refine View.canon_ofFn_unit_eq_of_forall (Val := Elt Ideal) (S := S1280x1280) (e := .fp8e5m2)
    (fun k : Fin 100 => ![128 * (tileOf k).val, 128 * (headOf k).val]) S128x128.size
    (fun k => inbC (tileOf k) (headOf k)) (fun k => codesV (tileV O D (tileOf k) (headOf k)) (peak (tileV O D (tileOf k)))) y _
    ?_ fun k => ?_
  · refine ⟨⟨(9 - (y 0 : ℕ) / 128) * 10 + (9 - (y 1 : ℕ) / 128), by omega⟩, fun a => ?_⟩
    fin_cases a
    · show 128 * (9 - ((9 - (y 0 : ℕ) / 128) * 10 + (9 - (y 1 : ℕ) / 128)) / 10) ≤ (y 0 : ℕ)
        ∧ (y 0 : ℕ) < 128 * (9 - ((9 - (y 0 : ℕ) / 128) * 10 + (9 - (y 1 : ℕ) / 128)) / 10) + 128
      omega
    · show 128 * (9 - ((9 - (y 0 : ℕ) / 128) * 10 + (9 - (y 1 : ℕ) / 128)) % 10) ≤ (y 1 : ℕ)
        ∧ (y 1 : ℕ) < 128 * (9 - ((9 - (y 0 : ℕ) / 128) * 10 + (9 - (y 1 : ℕ) / 128)) % 10) + 128
      omega
  · intro x hx
    have h0 : (y 0 : ℕ) = 128 * (tileOf k).val + (x 0 : ℕ) := hx 0
    have h1 : (y 1 : ℕ) = 128 * (headOf k).val + (x 1 : ℕ) := hx 1
    have l1 : (x 1 : ℕ) < 128 := (x 1).isLt
    have e1 : headC (y 1) = headOf k := Fin.ext (by show (y 1 : ℕ) / 128 = _; omega)
    have e2 : featC (y 1) = x 1 := Fin.ext (by show (y 1 : ℕ) % 128 = _; omega)
    refine (codesV_apply _ _ x).trans ?_
    rw [codeOf, peak_tile O D full hf _ x (y 0) h0, hf _ _ x (y 0) h0, e1, e2]

/-- The scales after all their stores. -/
theorem scales_canon (y : S8x1280.Idx) :
    View.canon (scalesPieces O D) y = scaleWord (peakOf (full (y 1))) := by
  have b0 : (y 0 : ℕ) < 8 := (y 0).isLt
  have b1 : (y 1 : ℕ) < 1280 := (y 1).isLt
  refine View.canon_ofFn_unit_eq_of_forall (Val := Elt Ideal) (S := S8x1280) (e := .f32)
    (fun k : Fin 10 => ![0, 128 * (tenOf k).val]) S8x128.size
    (fun k => inbL (tenOf k)) (fun k => scalesV (scaleV (peak (tileV O D (tenOf k))))) y _ ?_ fun k => ?_
  · refine ⟨⟨9 - (y 1 : ℕ) / 128, by omega⟩, fun a => ?_⟩
    fin_cases a
    · show 0 ≤ (y 0 : ℕ) ∧ (y 0 : ℕ) < 0 + 8
      omega
    · show 128 * (9 - (9 - (y 1 : ℕ) / 128)) ≤ (y 1 : ℕ) ∧ (y 1 : ℕ) < 128 * (9 - (9 - (y 1 : ℕ) / 128)) + 128
      omega
  · intro x hx
    have h0 : (y 1 : ℕ) = 128 * (tenOf k).val + (x 1 : ℕ) := hx 1
    have e : scalesV (scaleV (peak (tileV O D (tenOf k)))) x
        = scaleV (peak (tileV O D (tenOf k))) (ix2 (x 1) (⟨(x 0 : ℕ), lt_trans (x 0).isLt (by decide)⟩ : Fin 128)) := by
      generalize scaleV (peak (tileV O D (tenOf k))) = a
      pointwise [scalesV]
    exact e.trans ((scaleV_apply _ _).trans (congrArg scaleWord (peak_tile O D full hf _ _ (y 1) h0)))

end Stores

/-- The running sums after all their stores. -/
theorem dat_canon (P : Fin 10 → FVec Ideal S1x8x128 .f32) (y : S10x8x128.Idx) :
    View.canon (datPieces P) y = P (y 0) (ix3 0 (y 1) (y 2)) := by
  have b0 : (y 0 : ℕ) < 10 := (y 0).isLt
  have b1 : (y 1 : ℕ) < 8 := (y 1).isLt
  have b2 : (y 2 : ℕ) < 128 := (y 2).isLt
  refine View.canon_ofFn_unit_eq_of_forall (Val := Elt Ideal) (S := S10x8x128) (e := .f32)
    (fun k : Fin 10 => ![(tenOf k).val, 0, 0]) S1x8x128.size
    (fun k => inbO (tenOf k)) (fun k => P (tenOf k)) y _ ?_ fun k => ?_
  · refine ⟨⟨9 - (y 0 : ℕ), by omega⟩, fun a => ?_⟩
    fin_cases a
    · show 9 - (9 - (y 0 : ℕ)) ≤ (y 0 : ℕ) ∧ (y 0 : ℕ) < 9 - (9 - (y 0 : ℕ)) + 1
      omega
    · show 0 ≤ (y 1 : ℕ) ∧ (y 1 : ℕ) < 0 + 8
      omega
    · show 0 ≤ (y 2 : ℕ) ∧ (y 2 : ℕ) < 0 + 128
      omega
  · intro x hx
    have h0 : (y 0 : ℕ) = (tenOf k).val + (x 0 : ℕ) := hx 0
    have h1 : (y 1 : ℕ) = 0 + (x 1 : ℕ) := hx 1
    have h2 : (y 2 : ℕ) = 0 + (x 2 : ℕ) := hx 2
    have l0 : (x 0 : ℕ) < 1 := (x 0).isLt
    have e : y 0 = tenOf k := Fin.ext (by omega)
    rw [e]
    congr 1
    blk_ext

/-- Three of the eight rows, added. -/
theorem threeV_apply (o : Vec Ideal S1x8x128 .f32) (s : Fin 2) (f : Fin 128) :
    threeV o s (ix3 0 0 f) = (o (ix3 0 (⟨3 * s.val, by omega⟩ : Fin 8) f) + o (ix3 0 (⟨3 * s.val + 1, by omega⟩ : Fin 8) f)
      + o (ix3 0 (⟨3 * s.val + 2, by omega⟩ : Fin 8) f) : EReal) := by
  fin_cases s
  · show threeV o 0 _ = _
    dsimp only [threeV, Matrix.cons_val_zero]
    pointwise
  · show threeV o 1 _ = _
    dsimp only [threeV, Matrix.cons_val_one]
    pointwise

/-- The last output after all its stores. -/
theorem last_canon (o : Fin 10 → Vec Ideal S1x8x128 .f32) (y : S2x10x128.Idx) :
    View.canon (lastPieces o) y = threeV (o (y 1)) (y 0) (ix3 0 0 (y 2)) := by
  have b0 : (y 0 : ℕ) < 2 := (y 0).isLt
  have b1 : (y 1 : ℕ) < 10 := (y 1).isLt
  have b2 : (y 2 : ℕ) < 128 := (y 2).isLt
  refine View.canon_ofFn_unit_eq_of_forall (Val := Elt Ideal) (S := S2x10x128) (e := .f32)
    (fun k : Fin 20 => ![(lastSide k).val, (lastHead k).val, 0]) S1x1x128.size
    (fun k => inbA (lastSide k) (lastHead k)) (fun k => threeV (o (lastHead k)) (lastSide k)) y _ ?_ fun k => ?_
  · refine ⟨⟨(9 - (y 1 : ℕ)) * 2 + (1 - (y 0 : ℕ)), by omega⟩, fun a => ?_⟩
    fin_cases a
    · show 1 - ((9 - (y 1 : ℕ)) * 2 + (1 - (y 0 : ℕ))) % 2 ≤ (y 0 : ℕ)
        ∧ (y 0 : ℕ) < 1 - ((9 - (y 1 : ℕ)) * 2 + (1 - (y 0 : ℕ))) % 2 + 1
      omega
    · show 9 - ((9 - (y 1 : ℕ)) * 2 + (1 - (y 0 : ℕ))) / 2 ≤ (y 1 : ℕ)
        ∧ (y 1 : ℕ) < 9 - ((9 - (y 1 : ℕ)) * 2 + (1 - (y 0 : ℕ))) / 2 + 1
      omega
    · show 0 ≤ (y 2 : ℕ) ∧ (y 2 : ℕ) < 0 + 128
      omega
  · intro x hx
    have h0 : (y 0 : ℕ) = (lastSide k).val + (x 0 : ℕ) := hx 0
    have h1 : (y 1 : ℕ) = (lastHead k).val + (x 1 : ℕ) := hx 1
    have h2 : (y 2 : ℕ) = 0 + (x 2 : ℕ) := hx 2
    have l0 : (x 0 : ℕ) < 1 := (x 0).isLt
    have l1 : (x 1 : ℕ) < 1 := (x 1).isLt
    have e0 : y 0 = lastSide k := Fin.ext (by omega)
    have e1 : y 1 = lastHead k := Fin.ext (by omega)
    rw [e0, e1]
    congr 1
    blk_ext

/-- A row of the block of the right factor, of real values: the value in the terms that take the first part, else zero. -/
theorem rightV_apply (b : Fin 2 → Vec Ideal S1x128 .f32) (hb : ∀ s i, IsReal (b s i)) (k : Fin 16) (f : Fin 128) :
    rightV b (ix2 k f) = if rightPart ⟨k.val % 8, by omega⟩ = 0 then b ⟨k.val / 8, by omega⟩ (ix2 0 f) else (0 : EReal) := by
  have e : rightV b (ix2 k f) = rightRow b k (ix2 0 f) := by
    have e1 : rightV b (ix2 k f) = concatenate S16x128 0
      (List.ofFn fun k : Fin 16 => (⟨S1x128, rightRow b k⟩ : (s : Shape) × (s.Idx → EReal))) concatenatesRight (ix2 k f) := by
      rw [rightV]
      generalize concatenate S16x128 0 _ _ = w
      pointwise
    refine e1.trans (concatenate_ofFn_unit_apply (t := S16x128) (s₁ := S1x128) 0 (rightRow b) concatenatesRight rfl rfl (ix2 k f)
      k rfl (ix2 0 f) fun a ha => ?_)
    fin_cases a
    · exact absurd rfl ha
    · rfl
  rw [e, rightRow, splitV_apply]
  exact hb _ _

/-- The second product's left factor, of real values. -/
theorem rowsV_apply (A : Fin 2 → FVec Ideal S10x1280 .f32) (s : Vec Ideal S1x1280 .f32) (h : Fin 10) (k : Fin 8) (r : Fin 1280)
    (hA : ∀ s i, IsReal (A s i)) (hs : ∀ i, IsReal (s i)) :
    rowsV A s h k (ix2 0 r)
      = if k.val % 3 = 0 then A (if k.val = 3 then 1 else 0) (ix2 h r) * s (ix2 0 r) else (0 : EReal) := by
  have e : ∀ (d : Fin 2) (t : Fin 3), splitV (mulf (rowV (A d) h) s) t (ix2 0 r)
      = if t = 0 then A d (ix2 h r) * s (ix2 0 r) else (0 : EReal) := fun d t => by
    have e1 : mulf (rowV (A d) h) s (ix2 0 r) = (A d (ix2 h r) * s (ix2 0 r) : EReal) := by
      show (rowV (A d) h (ix2 0 r) * s (ix2 0 r) : EReal) = _
      rw [rowV_apply]
      rfl
    rw [splitV_apply _ _ _ (by rw [e1]; exact (hA _ _).mul (hs _)), e1]
  fin_cases k
  · exact e 0 0
  · exact e 0 1
  · exact e 0 2
  · exact e 1 0
  · exact e 1 1
  · exact e 1 2
  · exact e 0 0
  · exact e 0 1

end Cert.KernelFinIdeal.Value

end
-- ==== Proof.KernelFinCases.lean ====
/-
  What one grid point of the kernel that finishes the gradient leaves in its output blocks and in its scratch buffers.
-/
module

public import proofs.«01_k».proof.Proof.KernelFinBlock
public import Idealize.ShloMosaic.Lib.WholeRead

@[expose] public section

set_option maxRecDepth 16384

noncomputable section

namespace Cert.KernelFinIdeal.Value

open Cert.KernelFinIdeal Cert.KernelFinIdeal.Gen Idealize.ShloMosaic Idealize.ShloMosaic.TcCoe Idealize.SL.Sem
open Cert.Proof (scaleWord invWord peakOf headC featC IsReal)

/-- A load through a rectangle of a buffer reads the buffer's entry at the rectangle's corner plus the index. -/
theorem load_at {S : Shape} {e : EltTy} (a : Memref sig .tc .vmem S e) (ha : a.IsWhole) (X : Vec Ideal S e)
    (off size : Fin S.rank → ℕ) (inb : ∀ k, off k + size k ≤ S.size k) (x : (⟨S.rank, size⟩ : Shape).Idx) (y : S.Idx)
    (h : ∀ k, (y k : ℕ) = off k + (x k : ℕ)) :
    View.readAt (Elt Ideal) a.view (Rect.unit off size inb).toLoadRect (ha.unread X) x = X y := by
  rw [Memref.IsWhole.readAt_unread]
  congr 1
  funext k
  refine Fin.ext ?_
  rw [h k]
  show off k + 1 * (x k : ℕ) = _
  omega

/-- What one grid point adds to a row of the running sums. -/
def datStep (x1 : Vec Ideal S10x1280x128 .fp8e4m3) (x2 : Vec Ideal S10x1280 .f32) (x3 x4 : Vec Ideal S6x10x1280 .f32)
    (h : Fin 10) (k : Fin 8) (f : Fin 128) : EReal :=
  ∑ r : Fin 1280, (if k.val % 3 = 0 then aBlk (if k.val = 3 then x4 else x3) h r * x2 (ix2 h r) else 0) * x1 (ix3 h r f)

variable (c : Dev nD) (i : grid0.Coords) (arg1 : Memref sig .tc .vmem S10x1280x128 .f32) (harg1 : arg1.IsWhole)
  (arg2 : Memref sig .tc .vmem S10x1280x128 .fp8e4m3) (harg2 : arg2.IsWhole) (arg3 : Memref sig .tc .vmem S10x1280 .f32)
  (harg3 : arg3.IsWhole) (arg4 : Memref sig .tc .vmem S6x10x1280 .f32) (harg4 : arg4.IsWhole)
  (arg5 : Memref sig .tc .vmem S6x10x1280 .f32) (harg5 : arg5.IsWhole) (arg6 : Memref sig .tc .vmem S10x128 .f32)
  (harg6 : arg6.IsWhole) (arg7 : Memref sig .tc .vmem S10x128 .f32) (harg7 : arg7.IsWhole)
  (arg8 : Memref sig .tc .vmem S1280x1280 .fp8e5m2) (harg8 : arg8.IsWhole) (arg9 : Memref sig .tc .vmem S8x1280 .f32)
  (harg9 : arg9.IsWhole) (arg10 : Memref sig .tc .vmem S2x10x128 .f32) (harg10 : arg10.IsWhole)
  (arg11 : Memref sig .tc .vmem S160x1280 .f32) (harg11 : arg11.IsWhole) (arg12 : Memref sig .tc .vmem S10x8x128 .f32)
  (harg12 : arg12.IsWhole) (x0 : Vec Ideal S10x1280x128 .f32) (x1 : Vec Ideal S10x1280x128 .fp8e4m3)
  (x2 : Vec Ideal S10x1280 .f32) (x3 : Vec Ideal S6x10x1280 .f32) (x4 : Vec Ideal S6x10x1280 .f32)
  (x5 : Vec Ideal S10x128 .f32) (x6 : Vec Ideal S10x128 .f32) (xs0 : Vec Ideal S160x1280 .f32)
  (xs1 : Vec Ideal S10x8x128 .f32)

/-- The loaded sums, element by element. -/
theorem rawA_apply (s : Fin 2) (h : Fin 10) (r : Fin 1280) :
    rawA arg4 harg4 arg5 harg5 x3 x4 s (ix2 h r) = aBlk (if s = 0 then x3 else x4) h r := by
  have e : ∀ (a : Memref sig .tc .vmem S6x10x1280 .f32) (ha : a.IsWhole) (x : Vec Ideal S6x10x1280 .f32),
      sumV (rawP a ha x) (ix2 h r) = aBlk x h r := fun a ha x => by
    rw [sumV_apply, aBlk]
    refine Finset.sum_congr rfl fun q _ => ?_
    refine load_at _ _ _ _ _ _ _ _ fun k => ?_
    fin_cases k <;> first | rfl | exact (Nat.zero_add _).symm
  fin_cases s
  · exact e _ _ _
  · exact e _ _ _

/-- The loaded gradient, element by element. -/
theorem rawD_apply (k h : Fin 10) (a f : Fin 128) (r : Fin 1280) (hr : r.val = 128 * k.val + a.val) :
    rawD arg1 harg1 x0 k h (ix3 0 a f) = x0 (ix3 h r f) := by
  refine load_at _ _ _ _ _ _ _ _ fun k => ?_
  fin_cases k <;> first | rfl | exact (Nat.zero_add _).symm | exact hr

/-- The loaded codes of the activations, element by element. -/
theorem rawH_apply (h : Fin 10) (r : Fin 1280) (f : Fin 128) : rawH arg2 harg2 x1 h (ix3 0 r f) = x1 (ix3 h r f) := by
  refine load_at _ _ _ _ _ _ _ _ fun k => ?_
  fin_cases k <;> first | rfl | exact (Nat.zero_add _).symm

/-- The loaded scales of the activations, element by element. -/
theorem rawS_apply (h : Fin 10) (r : S1x1280.Idx) : rawS arg3 harg3 x2 h r = x2 (ix2 h (r 1)) := by
  have l : (r 0 : ℕ) < 1 := (r 0).isLt
  refine load_at _ _ _ _ _ _ _ _ fun k => ?_
  fin_cases k
  · show h.val = h.val + (r 0 : ℕ)
    omega
  · exact (Nat.zero_add _).symm

/-- The loaded running sums, element by element. -/
theorem rawO_apply (h : Fin 10) (k : Fin 8) (f : Fin 128) : rawO arg12 harg12 xs1 h (ix3 0 k f) = xs1 (ix3 h k f) := by
  refine load_at _ _ _ _ _ _ _ _ fun k => ?_
  fin_cases k <;> first | rfl | exact (Nat.zero_add _).symm

/-- The loaded right factor, element by element. -/
theorem rawR_apply (i : S160x1280.Idx) : rawR arg11 harg11 xs0 i = xs0 i := by
  refine load_at _ _ _ _ _ _ _ _ fun k => ?_
  fin_cases k <;> first | rfl | exact (Nat.zero_add _).symm

variable (h2 : ∀ j, IsReal (x2 j)) (h3 : ∀ j, IsReal (x3 j)) (h4 : ∀ j, IsReal (x4 j))

include h3 h4 in
/-- The loaded sums are real. -/
theorem rawA_real (s : Fin 2) (j : S10x1280.Idx) : IsReal (rawA arg4 harg4 arg5 harg5 x3 x4 s j) := by
  idx_vars j
  rw [rawA_apply]
  refine IsReal.sum _ fun q => ?_
  split
  · exact h3 _
  · exact h4 _

include h3 h4 in
/-- The tiles hold the finished gradient. -/
theorem tile_full (R : Vec Ideal S160x1280 .f32) (hR : ∀ k c, R (ix2 k c) = rightE ![x5, x6] k c)
    (k h : Fin 10) (x : S128x128.Idx) (r : Fin 1280) (hr : r.val = 128 * k.val + (x 0 : ℕ)) :
    tileV (outerV (rawA arg4 harg4 arg5 harg5 x3 x4) R) (rawD arg1 harg1 x0) k h x = fullBlk x0 x3 x4 x5 x6 r h (x 1) := by
  have l1 : (x 1 : ℕ) < 128 := (x 1).isLt
  rw [tileV_apply _ _ k h x r ⟨128 * h.val + (x 1 : ℕ), by omega⟩ hr rfl, rawD_apply arg1 harg1 x0 k h (x 0) (x 1) r hr,
    outerV_apply _ ![x5, x6] R (rawA_real arg4 harg4 arg5 harg5 x3 x4 h3 h4) hR r h (x 1) _ rfl, rawA_apply, rawA_apply]
  rfl

include h2 h3 h4 in
/-- One grid point adds its step to the running sums. -/
theorem step_dat (old : Vec Ideal S1x8x128 .f32) (h : Fin 10) (k : Fin 8) (f : Fin 128) :
    stepD (rawA arg4 harg4 arg5 harg5 x3 x4) (rawS arg3 harg3 x2 h) h old (rawH arg2 harg2 x1 h) (ix3 0 k f)
      = (old (ix3 0 k f) + datStep x1 x2 x3 x4 h k f : EReal) := by
  rw [stepD_apply, datStep]
  congr 1
  refine Finset.sum_congr rfl fun r _ => ?_
  rw [rowsV_apply _ _ _ _ _ (rawA_real arg4 harg4 arg5 harg5 x3 x4 h3 h4) fun j => by rw [rawS_apply]; exact h2 _,
    rawH_apply, rawA_apply, rawS_apply]
  congr 1
  by_cases h3 : k.val = 3
  · rw [if_pos h3, if_pos h3]; rfl
  · rw [if_neg h3, if_neg h3]; rfl

include h3 h4 in
/-- The codes that a grid point of the middle kind leaves. -/
theorem codes_out_B (hc0 : ¬cond0_0 i) (hc1 : ¬cond0_1 i) (hR : ∀ k c, xs0 (ix2 k c) = rightE ![x5, x6] k c)
    (y : S1280x1280.Idx) : out0_B_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y
      = codeOf (fullBlk x0 x3 x4 x5 x6 (y 0)) (headC (y 1)) (featC (y 1)) := by
  rw [out0_B_7, View.read_writes_junk_apply_eq_canon, codes_B, outer_B]
  exact codes_canon _ _ _ (tile_full arg1 harg1 arg4 harg4 arg5 harg5 x0 x3 x4 x5 x6 h3 h4 _
    fun k c => (rawR_apply arg11 harg11 xs0 _).trans (hR k c)) y

include h3 h4 in
/-- The scales that a grid point of the middle kind leaves. -/
theorem scales_out_B (hc0 : ¬cond0_0 i) (hc1 : ¬cond0_1 i) (hR : ∀ k c, xs0 (ix2 k c) = rightE ![x5, x6] k c)
    (y : S8x1280.Idx) : out0_B_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y
      = scaleWord (peakOf (fullBlk x0 x3 x4 x5 x6 (y 1))) := by
  rw [out0_B_8, View.read_writes_junk_apply_eq_canon, scales_B, outer_B]
  exact scales_canon _ _ _ (tile_full arg1 harg1 arg4 harg4 arg5 harg5 x0 x3 x4 x5 x6 h3 h4 _
    fun k c => (rawR_apply arg11 harg11 xs0 _).trans (hR k c)) y

include h2 h3 h4 in
/-- The running sums that a grid point of the middle kind leaves. -/
theorem dat_out_B (hc0 : ¬cond0_0 i) (hc1 : ¬cond0_1 i) (y : S10x8x128.Idx) :
    sout0_B_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y
      = (xs1 y + datStep x1 x2 x3 x4 (y 0) (y 1) (y 2) : EReal) := by
  rw [sout0_B_1, View.read_writes_junk_apply_eq_canon, sums_B, dat_canon]
  refine (step_dat arg2 harg2 arg3 harg3 arg4 harg4 arg5 harg5 x1 x2 x3 x4 h2 h3 h4 _ _ _ _).trans ?_
  have e : (ix3 (y 0) (y 1) (y 2) : S10x8x128.Idx) = y := by blk_ext
  exact (congrArg (· + _) (rawO_apply arg12 harg12 xs1 (y 0) (y 1) (y 2))).trans (congrArg (fun z => (xs1 z + _ : EReal)) e)

include h3 h4 in
/-- The codes that a grid point of the last kind leaves. -/
theorem codes_out_C (hc0 : ¬cond0_0 i) (hc1 : cond0_1 i) (hR : ∀ k c, xs0 (ix2 k c) = rightE ![x5, x6] k c)
    (y : S1280x1280.Idx) : out0_C_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y
      = codeOf (fullBlk x0 x3 x4 x5 x6 (y 0)) (headC (y 1)) (featC (y 1)) := by
  rw [out0_C_7, View.read_writes_junk_apply_eq_canon, codes_C, outer_C]
  exact codes_canon _ _ _ (tile_full arg1 harg1 arg4 harg4 arg5 harg5 x0 x3 x4 x5 x6 h3 h4 _
    fun k c => (rawR_apply arg11 harg11 xs0 _).trans (hR k c)) y

include h3 h4 in
/-- The scales that a grid point of the last kind leaves. -/
theorem scales_out_C (hc0 : ¬cond0_0 i) (hc1 : cond0_1 i) (hR : ∀ k c, xs0 (ix2 k c) = rightE ![x5, x6] k c)
    (y : S8x1280.Idx) : out0_C_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y
      = scaleWord (peakOf (fullBlk x0 x3 x4 x5 x6 (y 1))) := by
  rw [out0_C_8, View.read_writes_junk_apply_eq_canon, scales_C, outer_C]
  exact scales_canon _ _ _ (tile_full arg1 harg1 arg4 harg4 arg5 harg5 x0 x3 x4 x5 x6 h3 h4 _
    fun k c => (rawR_apply arg11 harg11 xs0 _).trans (hR k c)) y

include h2 h3 h4 in
/-- The running sums that a grid point of the last kind leaves. -/
theorem dat_out_C (hc0 : ¬cond0_0 i) (hc1 : cond0_1 i) (y : S10x8x128.Idx) :
    sout0_C_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y
      = (xs1 y + datStep x1 x2 x3 x4 (y 0) (y 1) (y 2) : EReal) := by
  rw [sout0_C_1, View.read_writes_junk_apply_eq_canon, sums_C, dat_canon]
  refine (step_dat arg2 harg2 arg3 harg3 arg4 harg4 arg5 harg5 x1 x2 x3 x4 h2 h3 h4 _ _ _ _).trans ?_
  have e : (ix3 (y 0) (y 1) (y 2) : S10x8x128.Idx) = y := by blk_ext
  exact (congrArg (· + _) (rawO_apply arg12 harg12 xs1 (y 0) (y 1) (y 2))).trans (congrArg (fun z => (xs1 z + _ : EReal)) e)

include h2 h3 h4 in
/-- The running sums that the last grid point reads back. -/
theorem oldC_apply (h : Fin 10) (k : Fin 8) (f : Fin 128) :
    oldC c arg2 harg2 arg3 harg3 arg4 harg4 arg5 harg5 arg12 harg12 x1 x2 x3 x4 xs1 h (ix3 0 k f)
      = (xs1 (ix3 h k f) + datStep x1 x2 x3 x4 h k f : EReal) := by
  have e : oldC c arg2 harg2 arg3 harg3 arg4 harg4 arg5 harg5 arg12 harg12 x1 x2 x3 x4 xs1 h
      = arg12.view.readCov (Val := Elt Ideal)
        (kernelRun0_C.sl.HS1_10 (F := Ideal) c arg2 harg2 arg3 harg3 arg4 harg4 arg5 harg5 arg12 harg12 x1 x2 x3 x4 xs1)
        (Rect.unit (s := S10x8x128) ![h.val, 0, 0] S1x8x128.size (inbO h)).toLoadRect := by
    fin_cases h <;> rfl
  have e1 : ((Rect.unit (s := S10x8x128) ![h.val, 0, 0] S1x8x128.size (inbO h)).toLoadRect.idx (ix3 0 k f))
      = ix3 h k f := by
    funext a
    refine Fin.ext ?_
    fin_cases a
    · show h.val + 1 * 0 = h.val
      omega
    · show 0 + 1 * k.val = k.val
      omega
    · show 0 + 1 * f.val = f.val
      omega
  rw [e, View.readCov_eq_canon', stored_C]
  refine (congrArg (View.canon _) e1).trans ((dat_canon _ _).trans ?_)
  refine (step_dat arg2 harg2 arg3 harg3 arg4 harg4 arg5 harg5 x1 x2 x3 x4 h2 h3 h4 _ _ _ _).trans ?_
  exact congrArg (· + _) (rawO_apply arg12 harg12 xs1 h k f)

include h2 h3 h4 in
/-- The last output that the last grid point leaves: three of the eight running sums, added. -/
theorem last_out_C (hc0 : ¬cond0_0 i) (hc1 : cond0_1 i) (y : S2x10x128.Idx) (v : Fin 8 → EReal)
    (hv : ∀ k, v k = xs1 (ix3 (y 1) k (y 2)) + datStep x1 x2 x3 x4 (y 1) k (y 2)) :
    out0_C_9 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 y
      = (v ⟨3 * (y 0 : ℕ), by have : (y 0 : ℕ) < 2 := (y 0).isLt; omega⟩
        + v ⟨3 * (y 0 : ℕ) + 1, by have : (y 0 : ℕ) < 2 := (y 0).isLt; omega⟩
        + v ⟨3 * (y 0 : ℕ) + 2, by have : (y 0 : ℕ) < 2 := (y 0).isLt; omega⟩ : EReal) := by
  rw [out0_C_9, View.read_writes_junk_apply_eq_canon, last_C, last_canon]
  refine (threeV_apply _ _ _).trans ?_
  rw [hv, hv, hv]
  have e := oldC_apply c arg2 harg2 arg3 harg3 arg4 harg4 arg5 harg5 arg12 harg12 x1 x2 x3 x4 xs1 h2 h3 h4 (y 1)
  exact congrArg₂ (· + ·) (congrArg₂ (· + ·) (e _ _) (e _ _)) (e _ _)

end Cert.KernelFinIdeal.Value

end
-- ==== Proof.KernelFinRight.lean ====
/-
  The stores of the right factor, which the first grid point writes head by head over zeros.
-/
module

public import proofs.«01_k».proof.Proof.KernelFinPieces

@[expose] public section

set_option maxRecDepth 16384

noncomputable section

namespace Cert.KernelFinIdeal.Value

open Cert.KernelFinIdeal Cert.KernelFinIdeal.Gen Idealize.ShloMosaic Idealize.ShloMosaic.TcCoe Idealize.SL.Sem

variable (c : Dev nD) (i : grid0.Coords) (arg1 : Memref sig .tc .vmem S10x1280x128 .f32) (harg1 : arg1.IsWhole)
  (arg2 : Memref sig .tc .vmem S10x1280x128 .fp8e4m3) (harg2 : arg2.IsWhole) (arg3 : Memref sig .tc .vmem S10x1280 .f32)
  (harg3 : arg3.IsWhole) (arg4 : Memref sig .tc .vmem S6x10x1280 .f32) (harg4 : arg4.IsWhole)
  (arg5 : Memref sig .tc .vmem S6x10x1280 .f32) (harg5 : arg5.IsWhole) (arg6 : Memref sig .tc .vmem S10x128 .f32)
  (harg6 : arg6.IsWhole) (arg7 : Memref sig .tc .vmem S10x128 .f32) (harg7 : arg7.IsWhole)
  (arg8 : Memref sig .tc .vmem S1280x1280 .fp8e5m2) (harg8 : arg8.IsWhole) (arg9 : Memref sig .tc .vmem S8x1280 .f32)
  (harg9 : arg9.IsWhole) (arg10 : Memref sig .tc .vmem S2x10x128 .f32) (harg10 : arg10.IsWhole)
  (arg11 : Memref sig .tc .vmem S160x1280 .f32) (harg11 : arg11.IsWhole) (arg12 : Memref sig .tc .vmem S10x8x128 .f32)
  (harg12 : arg12.IsWhole) (x0 : Vec Ideal S10x1280x128 .f32) (x1 : Vec Ideal S10x1280x128 .fp8e4m3)
  (x2 : Vec Ideal S10x1280 .f32) (x3 : Vec Ideal S6x10x1280 .f32) (x4 : Vec Ideal S6x10x1280 .f32)
  (x5 : Vec Ideal S10x128 .f32) (x6 : Vec Ideal S10x128 .f32) (xs0 : Vec Ideal S160x1280 .f32)
  (xs1 : Vec Ideal S10x8x128 .f32)

set_option maxHeartbeats 4000000 in
/-- The stores of the right factor, by the first grid point, as it reads them back. -/
theorem stored_A : kernelRun0_A.sl.HS0_11 (F := Ideal) c arg6 harg6 arg7 harg7 x5 x6
    = rightPieces (rawB arg6 harg6 arg7 harg7 x5 x6)
      ++ [⟨Rect.unit ![0, 0] S160x1280.size inb_S160x1280_S160x1280_0_0, k0_pay10 (F := Ideal)⟩] := by
  unfold kernelRun0_A.sl.HS0_11
  exact rfl

set_option maxHeartbeats 4000000 in
/-- The stores of the right factor, by the first grid point. -/
theorem right_A (hc0 : cond0_0 i) (hc1 : ¬cond0_1 i) :
    (kernelRun0_A (F := Ideal) c i arg1 harg1 arg2 harg2 arg3 harg3 arg4 harg4 arg5 harg5 arg6 harg6 arg7 harg7 arg8 harg8 arg9 harg9 arg10 harg10 arg11 harg11 arg12 harg12
      hc0 hc1 x0 x1 x2 x3 x4 x5 x6).2.2.2.1
      = kernelRun0_A.sl.HS0_11 (F := Ideal) c arg6 harg6 arg7 harg7 x5 x6 := by
  unfold kernelRun0_A
  dsimp only

end Cert.KernelFinIdeal.Value

end
-- ==== Proof.KernelFinFirst.lean ====
/-
  What the first grid point of the kernel that finishes the gradient leaves: it also sets the right factor and clears the
  running sums.
-/
module

public import proofs.«01_k».proof.Proof.KernelFinCases
public import proofs.«01_k».proof.Proof.KernelFinRight
public import Idealize.ShloMosaic.Lib.Pipeline.ReadBack

@[expose] public section

set_option maxRecDepth 16384

noncomputable section

namespace Cert.KernelFinIdeal.Value

open Cert.KernelFinIdeal Cert.KernelFinIdeal.Gen Idealize.ShloMosaic Idealize.ShloMosaic.TcCoe Idealize.SL.Sem
open Cert.Proof (scaleWord invWord peakOf headC featC IsReal)

/-- Earlier stores do not matter at an index that one of the later stores covers. -/
theorem canon_append_of_mem {S : Shape} {e : EltTy} (L' : List (View.Piece (Elt Ideal) S e)) :
    ∀ (L : List (View.Piece (Elt Ideal) S e)) (y : S.Idx) (_ : ∃ p ∈ L, y ∈ p.1.set),
      View.canon (L ++ L') y = View.canon L y
  | [], _, hy => by
    obtain ⟨p, hp, _⟩ := hy
    simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_mem L' L y ?_
      obtain ⟨q, hq, hyq⟩ := hy
      rcases List.mem_cons.mp hq with rfl | hq'
      · exact absurd hyq hm
      · exact ⟨q, hq', hyq⟩

/-- Later stores do not matter at an index that none of them covers. -/
theorem canon_append_of_not_mem {S : Shape} {e : EltTy} (L' : List (View.Piece (Elt Ideal) S e)) :
    ∀ (L : List (View.Piece (Elt Ideal) S e)) (y : S.Idx) (_ : ∀ p ∈ L, y ∉ p.1.set),
      View.canon (L ++ L') y = View.canon L' y
  | [], _, _ => rfl
  | p :: L, y, hy => by
    rw [List.cons_append, View.canon_cons_of_not_mem _ _ (hy p List.mem_cons_self)]
    exact canon_append_of_not_mem L' L y fun q hq => hy q (List.mem_cons_of_mem _ hq)

/-- The stores of the running sums cover them. -/
theorem dat_mem (P : Fin 10 → FVec Ideal S1x8x128 .f32) (y : S10x8x128.Idx) : ∃ p ∈ datPieces P, y ∈ p.1.set := by
  have b0 : (y 0 : ℕ) < 10 := (y 0).isLt
  have b1 : (y 1 : ℕ) < 8 := (y 1).isLt
  have b2 : (y 2 : ℕ) < 128 := (y 2).isLt
  have j : ∃ j : Fin 10, j.val = 9 - (y 0 : ℕ) := ⟨⟨9 - (y 0 : ℕ), by omega⟩, rfl⟩
  obtain ⟨j, hj⟩ := j
  refine ⟨⟨Rect.unit ![(tenOf j).val, 0, 0] S1x8x128.size (inbO (tenOf j)), P (tenOf j)⟩, List.mem_ofFn.mpr ⟨j, rfl⟩,
    (Rect.mem_set_unit (inb := inbO (tenOf j))).mpr fun a => ?_⟩
  fin_cases a
  · show 9 - j.val ≤ (y 0 : ℕ) ∧ (y 0 : ℕ) < 9 - j.val + 1
    omega
  · show 0 ≤ (y 1 : ℕ) ∧ (y 1 : ℕ) < 0 + 8
    omega
  · show 0 ≤ (y 2 : ℕ) ∧ (y 2 : ℕ) < 0 + 128
    omega

/-- The right factor after all its stores: a head's rows in the head's columns, zero elsewhere. -/
theorem right_canon (b : Fin 10 → Fin 2 → Vec Ideal S1x128 .f32) (B : Fin 2 → Vec Ideal S10x128 .f32)
    (hb : ∀ h s f, b h s (ix2 0 f) = B s (ix2 h f)) (hB : ∀ s i, IsReal (B s i)) (k : Fin 160) (c : Fin 1280) :
    View.canon (rightPieces b ++ [⟨Rect.unit ![0, 0] S160x1280.size inb_S160x1280_S160x1280_0_0, k0_pay10 (F := Ideal)⟩]) (ix2 k c)
      = rightE B k c := by
  have hreal : ∀ h s i, IsReal (b h s i) := fun h s i => by
    have e : i = ix2 0 (i 1) := by
      have l : (i 0 : ℕ) < 1 := (i 0).isLt
      blk_ext
    rw [e]
    exact (congrArg IsReal (hb h s (i 1))).mpr (hB _ _)
  by_cases hk : k.val / 16 = c.val / 128
  · have hc : ∃ j : Fin 10, ∀ a, (![16 * (tenOf j).val, 128 * (tenOf j).val] : Fin 2 → ℕ) a ≤ ((ix2 k c : S160x1280.Idx) a : ℕ)
        ∧ ((ix2 k c : S160x1280.Idx) a : ℕ) < (![16 * (tenOf j).val, 128 * (tenOf j).val] : Fin 2 → ℕ) a + S16x128.size a := by
      refine ⟨⟨9 - k.val / 16, by omega⟩, fun a => ?_⟩
      fin_cases a
      · show 16 * (9 - (9 - k.val / 16)) ≤ k.val ∧ k.val < 16 * (9 - (9 - k.val / 16)) + 16
        omega
      · show 128 * (9 - (9 - k.val / 16)) ≤ c.val ∧ c.val < 128 * (9 - (9 - k.val / 16)) + 128
        omega
    refine (canon_append_of_mem _ _ _ ?_).trans ?_
    · obtain ⟨j, hj⟩ := hc
      exact ⟨⟨Rect.unit ![16 * (tenOf j).val, 128 * (tenOf j).val] S16x128.size (inbR (tenOf j)), rightV (b (tenOf j))⟩,
        List.mem_ofFn.mpr ⟨j, rfl⟩, (Rect.mem_set_unit (inb := inbR (tenOf j))).mpr hj⟩
    · refine View.canon_ofFn_unit_eq_of_forall (Val := Elt Ideal) (S := S160x1280) (e := .f32)
        (fun j : Fin 10 => ![16 * (tenOf j).val, 128 * (tenOf j).val]) S16x128.size
        (fun j => inbR (tenOf j)) (fun j => rightV (b (tenOf j))) _ _ hc fun j x hx => ?_
      have h0 : k.val = 16 * (tenOf j).val + (x 0 : ℕ) := hx 0
      have h1 : c.val = 128 * (tenOf j).val + (x 1 : ℕ) := hx 1
      have l0 : (x 0 : ℕ) < 16 := (x 0).isLt
      have l1 : (x 1 : ℕ) < 128 := (x 1).isLt
      have e : x = ix2 (x 0) (x 1) := by blk_ext
      rw [e]
      refine (rightV_apply (b (tenOf j)) (hreal _) (x 0) (x 1)).trans ?_
      have e1 : (⟨(x 0 : ℕ) % 8, by omega⟩ : Fin 8) = termR k := Fin.ext (by show (x 0 : ℕ) % 8 = k.val % 8; omega)
      have e2 : (⟨(x 0 : ℕ) / 8, by omega⟩ : Fin 2) = sideR k := Fin.ext (by show (x 0 : ℕ) / 8 = k.val % 16 / 8; omega)
      have e3 : tenOf j = headR k := Fin.ext (by show _ = k.val / 16; omega)
      have e4 : x 1 = (⟨c.val % 128, by omega⟩ : Fin 128) := Fin.ext (by show _ = c.val % 128; omega)
      have e5 : (b (tenOf j) ⟨(x 0 : ℕ) / 8, by omega⟩ (ix2 0 (x 1)) : EReal) = B (sideR k) (ix2 (headR k) ⟨c.val % 128, by omega⟩) :=
        (hb _ _ _).trans (by rw [e2, e3, e4])
      rw [rightE]
      by_cases hp : rightPart (termR k) = 0
      · have hp' : rightPart ⟨(x 0 : ℕ) % 8, by omega⟩ = 0 := by rw [e1]; exact hp
        rw [if_pos hp', if_pos ⟨hk, hp⟩]
        exact e5
      · have hp' : ¬rightPart ⟨(x 0 : ℕ) % 8, by omega⟩ = 0 := by rw [e1]; exact hp
        rw [if_neg hp', if_neg fun h => hp h.2]
  · refine (canon_append_of_not_mem _ _ _ fun p hp hm => ?_).trans ?_
    · obtain ⟨j, rfl⟩ := List.mem_ofFn.mp hp
      have hm' := (Rect.mem_set_unit (inb := inbR (tenOf j))).mp hm
      have h0 : 16 * (tenOf j).val ≤ k.val ∧ k.val < 16 * (tenOf j).val + 16 := hm' 0
      have h1 : 128 * (tenOf j).val ≤ c.val ∧ c.val < 128 * (tenOf j).val + 128 := hm' 1
      omega
    · rw [rightE, if_neg fun h => hk h.1]
      refine (congrFun (View.canon_cons_unit_lit (S := S160x1280) inb_S160x1280_S160x1280_0_0 _ [] (by decide)) _).trans ?_
      pointwise [k0_pay10]

variable (c : Dev nD) (i : grid0.Coords) (arg1 : Memref sig .tc .vmem S10x1280x128 .f32) (harg1 : arg1.IsWhole)
  (arg2 : Memref sig .tc .vmem S10x1280x128 .fp8e4m3) (harg2 : arg2.IsWhole) (arg3 : Memref sig .tc .vmem S10x1280 .f32)
  (harg3 : arg3.IsWhole) (arg4 : Memref sig .tc .vmem S6x10x1280 .f32) (harg4 : arg4.IsWhole)
  (arg5 : Memref sig .tc .vmem S6x10x1280 .f32) (harg5 : arg5.IsWhole) (arg6 : Memref sig .tc .vmem S10x128 .f32)
  (harg6 : arg6.IsWhole) (arg7 : Memref sig .tc .vmem S10x128 .f32) (harg7 : arg7.IsWhole)
  (arg8 : Memref sig .tc .vmem S1280x1280 .fp8e5m2) (harg8 : arg8.IsWhole) (arg9 : Memref sig .tc .vmem S8x1280 .f32)
  (harg9 : arg9.IsWhole) (arg10 : Memref sig .tc .vmem S2x10x128 .f32) (harg10 : arg10.IsWhole)
  (arg11 : Memref sig .tc .vmem S160x1280 .f32) (harg11 : arg11.IsWhole) (arg12 : Memref sig .tc .vmem S10x8x128 .f32)
  (harg12 : arg12.IsWhole) (x0 : Vec Ideal S10x1280x128 .f32) (x1 : Vec Ideal S10x1280x128 .fp8e4m3)
  (x2 : Vec Ideal S10x1280 .f32) (x3 : Vec Ideal S6x10x1280 .f32) (x4 : Vec Ideal S6x10x1280 .f32)
  (x5 : Vec Ideal S10x128 .f32) (x6 : Vec Ideal S10x128 .f32) (xs0 : Vec Ideal S160x1280 .f32)
  (xs1 : Vec Ideal S10x8x128 .f32)

/-- The first grid point reads zeros as its running sums. -/
theorem oldA_apply (h : Fin 10) (j : S1x8x128.Idx) : oldA c arg2 harg2 arg3 harg3 arg4 harg4 arg5 harg5 arg12 x1 x2 x3 x4 h j = (0 : EReal) := by
  have z : ∀ (h : Fin 10) (j : S1x8x128.Idx), arg12.view.readCov (Val := Elt Ideal) (kernelRun0_A.sl.HS1_1 (F := Ideal))
      (Rect.unit (s := S10x8x128) ![h.val, 0, 0] S1x8x128.size (inbO h)).toLoadRect j = (0 : EReal) := fun h j => by
    rw [View.readCov_eq_canon']
    refine (congrFun (View.canon_cons_unit_lit (S := S10x8x128) inb_S10x8x128_S10x8x128_0_0_0 _ [] (by decide)) _).trans ?_
    pointwise [k0_pay11]
  have s : ∀ (L : List (View.Piece (Elt Ideal) S10x8x128 .f32)) (a h : Fin 10) (w : Vec Ideal S1x8x128 .f32), a < h →
      arg12.view.readCov (Val := Elt Ideal) (⟨Rect.unit (s := S10x8x128) ![a.val, 0, 0] S1x8x128.size (inbO a), w⟩ :: L)
        (Rect.unit (s := S10x8x128) ![h.val, 0, 0] S1x8x128.size (inbO h)).toLoadRect
      = arg12.view.readCov (Val := Elt Ideal) L (Rect.unit (s := S10x8x128) ![h.val, 0, 0] S1x8x128.size (inbO h)).toLoadRect :=
    fun L a h w hah => View.readCov_skip _ _ _ _ _ (by
      revert a h
      decide)
  have s0 : ∀ h : Fin 10, 0 < h → arg12.view.readCov (Val := Elt Ideal) (kernelRun0_A.sl.HS1_2 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_1 (F := Ideal))
      (Rect.unit (s := S10x8x128) ![h.val, 0, 0] S1x8x128.size (inbO h)).toLoadRect := fun h hh => s _ 0 h _ hh
  have s1 : ∀ h : Fin 10, 1 < h → arg12.view.readCov (Val := Elt Ideal) (kernelRun0_A.sl.HS1_3 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_2 (F := Ideal) c arg2 harg2 arg3 harg3 arg4 harg4 arg5 harg5 arg12 x1 x2 x3 x4)
      (Rect.unit (s := S10x8x128) ![h.val, 0, 0] S1x8x128.size (inbO h)).toLoadRect := fun h hh => s _ 1 h _ hh
  have s2 : ∀ h : Fin 10, 2 < h → arg12.view.readCov (Val := Elt Ideal) (kernelRun0_A.sl.HS1_4 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_3 (F := Ideal) c arg2 harg2 arg3 harg3 arg4 harg4 arg5 harg5 arg12 x1 x2 x3 x4)
      (Rect.unit (s := S10x8x128) ![h.val, 0, 0] S1x8x128.size (inbO h)).toLoadRect := fun h hh => s _ 2 h _ hh
  have s3 : ∀ h : Fin 10, 3 < h → arg12.view.readCov (Val := Elt Ideal) (kernelRun0_A.sl.HS1_5 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_4 (F := Ideal) c arg2 harg2 arg3 harg3 arg4 harg4 arg5 harg5 arg12 x1 x2 x3 x4)
      (Rect.unit (s := S10x8x128) ![h.val, 0, 0] S1x8x128.size (inbO h)).toLoadRect := fun h hh => s _ 3 h _ hh
  have s4 : ∀ h : Fin 10, 4 < h → arg12.view.readCov (Val := Elt Ideal) (kernelRun0_A.sl.HS1_6 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_5 (F := Ideal) c arg2 harg2 arg3 harg3 arg4 harg4 arg5 harg5 arg12 x1 x2 x3 x4)
      (Rect.unit (s := S10x8x128) ![h.val, 0, 0] S1x8x128.size (inbO h)).toLoadRect := fun h hh => s _ 4 h _ hh
  have s5 : ∀ h : Fin 10, 5 < h → arg12.view.readCov (Val := Elt Ideal) (kernelRun0_A.sl.HS1_7 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_6 (F := Ideal) c arg2 harg2 arg3 harg3 arg4 harg4 arg5 harg5 arg12 x1 x2 x3 x4)
      (Rect.unit (s := S10x8x128) ![h.val, 0, 0] S1x8x128.size (inbO h)).toLoadRect := fun h hh => s _ 5 h _ hh
  have s6 : ∀ h : Fin 10, 6 < h → arg12.view.readCov (Val := Elt Ideal) (kernelRun0_A.sl.HS1_8 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_7 (F := Ideal) c arg2 harg2 arg3 harg3 arg4 harg4 arg5 harg5 arg12 x1 x2 x3 x4)
      (Rect.unit (s := S10x8x128) ![h.val, 0, 0] S1x8x128.size (inbO h)).toLoadRect := fun h hh => s _ 6 h _ hh
  have s7 : ∀ h : Fin 10, 7 < h → arg12.view.readCov (Val := Elt Ideal) (kernelRun0_A.sl.HS1_9 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_8 (F := Ideal) c arg2 harg2 arg3 harg3 arg4 harg4 arg5 harg5 arg12 x1 x2 x3 x4)
      (Rect.unit (s := S10x8x128) ![h.val, 0, 0] S1x8x128.size (inbO h)).toLoadRect := fun h hh => s _ 7 h _ hh
  have s8 : ∀ h : Fin 10, 8 < h → arg12.view.readCov (Val := Elt Ideal) (kernelRun0_A.sl.HS1_10 (F := Ideal) c arg2 harg2 arg3 harg3 arg4 harg4 arg5 harg5 arg12 x1 x2 x3 x4)
      (Rect.unit (s := S10x8x128) ![h.val, 0, 0] S1x8x128.size (inbO h)).toLoadRect
      = arg12.view.readCov (Val := Elt Ideal) (kernelRun0_A.sl.HS1_9 (F := Ideal) c arg2 harg2 arg3 harg3 arg4 harg4 arg5 harg5 arg12 x1 x2 x3 x4)
      (Rect.unit (s := S10x8x128) ![h.val, 0, 0] S1x8x128.size (inbO h)).toLoadRect := fun h hh => s _ 8 h _ hh
  fin_cases h
  · exact z 0 j
  · exact (congrFun (s0 1 (by decide)) j).trans (z 1 j)
  · exact (congrFun (s1 2 (by decide)) j).trans ((congrFun (s0 2 (by decide)) j).trans (z 2 j))
  · exact (congrFun (s2 3 (by decide)) j).trans ((congrFun (s1 3 (by decide)) j).trans ((congrFun (s0 3 (by decide)) j).trans (z 3 j)))
  · exact (congrFun (s3 4 (by decide)) j).trans ((congrFun (s2 4 (by decide)) j).trans ((congrFun (s1 4 (by decide)) j).trans ((congrFun (s0 4 (by decide)) j).trans (z 4 j))))
  · exact (congrFun (s4 5 (by decide)) j).trans ((congrFun (s3 5 (by decide)) j).trans ((congrFun (s2 5 (by decide)) j).trans ((congrFun (s1 5 (by decide)) j).trans ((congrFun (s0 5 (by decide)) j).trans (z 5 j)))))
  · exact (congrFun (s5 6 (by decide)) j).trans ((congrFun (s4 6 (by decide)) j).trans ((congrFun (s3 6 (by decide)) j).trans ((congrFun (s2 6 (by decide)) j).trans ((congrFun (s1 6 (by decide)) j).trans ((congrFun (s0 6 (by decide)) j).trans (z 6 j))))))
  · exact (congrFun (s6 7 (by decide)) j).trans ((congrFun (s5 7 (by decide)) j).trans ((congrFun (s4 7 (by decide)) j).trans ((congrFun (s3 7 (by decide)) j).trans ((congrFun (s2 7 (by decide)) j).trans ((congrFun (s1 7 (by decide)) j).trans ((congrFun (s0 7 (by decide)) j).trans (z 7 j)))))))
  · exact (congrFun (s7 8 (by decide)) j).trans ((congrFun (s6 8 (by decide)) j).trans ((congrFun (s5 8 (by decide)) j).trans ((congrFun (s4 8 (by decide)) j).trans ((congrFun (s3 8 (by decide)) j).trans ((congrFun (s2 8 (by decide)) j).trans ((congrFun (s1 8 (by decide)) j).trans ((congrFun (s0 8 (by decide)) j).trans (z 8 j))))))))
  · exact (congrFun (s8 9 (by decide)) j).trans ((congrFun (s7 9 (by decide)) j).trans ((congrFun (s6 9 (by decide)) j).trans ((congrFun (s5 9 (by decide)) j).trans ((congrFun (s4 9 (by decide)) j).trans ((congrFun (s3 9 (by decide)) j).trans ((congrFun (s2 9 (by decide)) j).trans ((congrFun (s1 9 (by decide)) j).trans ((congrFun (s0 9 (by decide)) j).trans (z 9 j)))))))))

variable (hreal : ∀ (s : Fin 2) (j : S10x128.Idx), IsReal ((![x5, x6] : Fin 2 → Vec Ideal S10x128 .f32) s j))

include hreal in
/-- The right factor that the first grid point leaves. -/
theorem right_first (k : Fin 160) (c' : Fin 1280) :
    View.canon (kernelRun0_A.sl.HS0_11 (F := Ideal) c arg6 harg6 arg7 harg7 x5 x6) (ix2 k c') = rightE ![x5, x6] k c' := by
  rw [stored_A]
  refine right_canon _ _ (fun h s f => ?_) hreal k c'
  fin_cases s
  · refine load_at _ _ _ _ _ _ _ _ fun k => ?_
    fin_cases k <;> first | rfl | exact (Nat.zero_add _).symm
  · refine load_at _ _ _ _ _ _ _ _ fun k => ?_
    fin_cases k <;> first | rfl | exact (Nat.zero_add _).symm

include hreal in
/-- The right factor that the first grid point keeps. -/
theorem right_out_A (hc0 : cond0_0 i) (hc1 : ¬cond0_1 i) (k : Fin 160) (c' : Fin 1280) :
    sout0_A_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 k c') = rightE ![x5, x6] k c' := by
  rw [sout0_A_0, View.read_writes_junk_apply_eq_canon, right_A]
  exact right_first c arg6 harg6 arg7 harg7 x5 x6 hreal k c'

include hreal in
/-- The right factor that the first grid point reads back. -/
theorem right_read_A (k : Fin 160) (c' : Fin 1280) :
    kernelRun0_A.sl.v629 (F := Ideal) c arg6 harg6 arg7 harg7 arg11 x5 x6 (ix2 k c') = rightE ![x5, x6] k c' := by
  rw [kernelRun0_A.sl.v629, View.readCov_eq_canon']
  refine (congrArg (View.canon _) ?_).trans (right_first c arg6 harg6 arg7 harg7 x5 x6 hreal k c')
  funext a
  refine Fin.ext ?_
  fin_cases a
  · show 0 + 1 * k.val = k.val
    omega
  · show 0 + 1 * c'.val = c'.val
    omega

variable (h2 : ∀ j, IsReal (x2 j)) (h3 : ∀ j, IsReal (x3 j)) (h4 : ∀ j, IsReal (x4 j))

include h3 h4 hreal in
/-- The codes that the first grid point leaves. -/
theorem codes_out_A (hc0 : cond0_0 i) (hc1 : ¬cond0_1 i) (y : S1280x1280.Idx) :
    out0_A_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 y
      = codeOf (fullBlk x0 x3 x4 x5 x6 (y 0)) (headC (y 1)) (featC (y 1)) := by
  rw [out0_A_7, View.read_writes_junk_apply_eq_canon, codes_A, outer_A]
  exact codes_canon _ _ _ (tile_full arg1 harg1 arg4 harg4 arg5 harg5 x0 x3 x4 x5 x6 h3 h4 _
    (right_read_A c arg6 harg6 arg7 harg7 arg11 x5 x6 hreal)) y

include h3 h4 hreal in
/-- The scales that the first grid point leaves. -/
theorem scales_out_A (hc0 : cond0_0 i) (hc1 : ¬cond0_1 i) (y : S8x1280.Idx) :
    out0_A_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 y
      = scaleWord (peakOf (fullBlk x0 x3 x4 x5 x6 (y 1))) := by
  rw [out0_A_8, View.read_writes_junk_apply_eq_canon, scales_A, outer_A]
  exact scales_canon _ _ _ (tile_full arg1 harg1 arg4 harg4 arg5 harg5 x0 x3 x4 x5 x6 h3 h4 _
    (right_read_A c arg6 harg6 arg7 harg7 arg11 x5 x6 hreal)) y

include h2 h3 h4 in
/-- The running sums that the first grid point leaves. -/
theorem dat_out_A (hc0 : cond0_0 i) (hc1 : ¬cond0_1 i) (y : S10x8x128.Idx) :
    sout0_A_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 y = datStep x1 x2 x3 x4 (y 0) (y 1) (y 2) := by
  rw [sout0_A_1, View.read_writes_junk_apply_eq_canon, sums_A]
  refine (canon_append_of_mem _ _ _ (dat_mem _ y)).trans ((dat_canon _ y).trans ?_)
  refine (step_dat arg2 harg2 arg3 harg3 arg4 harg4 arg5 harg5 x1 x2 x3 x4 h2 h3 h4 _ _ _ _).trans ?_
  exact (congrArg (· + _) (oldA_apply c arg2 harg2 arg3 harg3 arg4 harg4 arg5 harg5 arg12 x1 x2 x3 x4 (y 0) _)).trans (zero_add _)

end Cert.KernelFinIdeal.Value

end
-- ==== Proof.KernelFin.lean ====
/-
  What the kernel that finishes the gradient computes: its result arrays are `finCodes`, `finScales` and `finAttn` of its
  arguments, as long as the arguments are real and each row's largest value is small enough to have a scale (`Fine`).
-/
module

public import proofs.«01_k».proof.Proof.KernelFinFirst
public import proofs.«01_k».proof.Proof.Gen.KernelFinIdeal.Value

@[expose] public section

set_option maxRecDepth 16384

noncomputable section

namespace Cert.KernelFinIdeal.Value

open Cert.KernelFinIdeal Cert.KernelFinIdeal.Gen Idealize.ShloMosaic Idealize.ShloMosaic.TcCoe Idealize.SL.Sem
open Cert.Proof (scaleWord invWord peakOf headC featC IsReal partSum finFull scaleOf word)

variable (m : (ℓ : Loc nD τ sig) → Buf (Elt Ideal) ℓ) (ρ : Dev nD → PrngReg)

/-- Where the blocks of grid point `t` start: block `t` of the rows; the two arrays of parts are cut into graphs of two
    blocks, six parts each. -/
theorem idx (t : Fin cfg0.N) : win0_0.index t = ![0, t.val, 0] ∧ win0_1.index t = ![0, t.val, 0]
    ∧ win0_2.index t = ![0, t.val] ∧ win0_3.index t = ![t.val / 2, 0, t.val % 2] ∧ win0_4.index t = ![t.val / 2, 0, t.val % 2]
    ∧ win0_5.index t = ![0, 0] ∧ win0_6.index t = ![0, 0] ∧ win0_7.index t = ![t.val, 0] ∧ win0_8.index t = ![0, t.val]
    ∧ win0_9.index t = ![0, 0, 0] :=
  (by decide +kernel : ∀ t : Fin grid0.N, win0_0.index t = ![0, t.val, 0] ∧ win0_1.index t = ![0, t.val, 0]
    ∧ win0_2.index t = ![0, t.val] ∧ win0_3.index t = ![t.val / 2, 0, t.val % 2] ∧ win0_4.index t = ![t.val / 2, 0, t.val % 2]
    ∧ win0_5.index t = ![0, 0] ∧ win0_6.index t = ![0, 0] ∧ win0_7.index t = ![t.val, 0] ∧ win0_8.index t = ![0, t.val]
    ∧ win0_9.index t = ![0, 0, 0]) t

/-- There are ten grid points. -/
theorem lt_ten (t : Fin cfg0.N) : t.val < 10 := t.isLt

/-- The gradient so far. -/
abbrev dhA (c : Dev nD) : Vec Ideal ⟨3, ![10, 12800, 128]⟩ .f32 := m ((c : Thread nD τ).loc main_arg0)
/-- The activations' codes. -/
abbrev hcA (c : Dev nD) : Vec Ideal ⟨3, ![10, 12800, 128]⟩ .fp8e4m3 := m ((c : Thread nD τ).loc main_arg1)
/-- The activations' scales. -/
abbrev hsA (c : Dev nD) : Vec Ideal ⟨2, ![10, 12800]⟩ .f32 := m ((c : Thread nD τ).loc main_arg2)
/-- The parts of the source's factor. -/
abbrev aSA (c : Dev nD) : Vec Ideal ⟨3, ![30, 10, 2560]⟩ .f32 := m ((c : Thread nD τ).loc main_arg3)
/-- The parts of the destination's factor. -/
abbrev aDA (c : Dev nD) : Vec Ideal ⟨3, ![30, 10, 2560]⟩ .f32 := m ((c : Thread nD τ).loc main_arg4)
/-- The source's attention vector. -/
abbrev sSA (c : Dev nD) : Vec Ideal ⟨2, ![10, 128]⟩ .f32 := m ((c : Thread nD τ).loc main_arg5)
/-- The destination's attention vector. -/
abbrev sDA (c : Dev nD) : Vec Ideal ⟨2, ![10, 128]⟩ .f32 := m ((c : Thread nD τ).loc main_arg6)

/-- Row `r` of block `t`. -/
def rowOf (t : Fin cfg0.N) (r : Fin 1280) : Fin 12800 := ⟨t.val * 1280 + r.val, by have := lt_ten t; omega⟩

/-- The block of the gradient. -/
theorem blk0 (c : Dev nD) (t : Fin cfg0.N) (h : Fin 10) (r : Fin 1280) (f : Fin 128) :
    (iblk m c 0 t : Vec Ideal S10x1280x128 .f32) (ix3 h r f) = dhA m c (ix3 h (rowOf t r) f) := by
  blk_point [iblk, V, idx t, rowOf]

/-- The block of the activations' codes. -/
theorem blk1 (c : Dev nD) (t : Fin cfg0.N) (h : Fin 10) (r : Fin 1280) (f : Fin 128) :
    (iblk m c 1 t : Vec Ideal S10x1280x128 .fp8e4m3) (ix3 h r f) = hcA m c (ix3 h (rowOf t r) f) := by
  blk_point [iblk, V, idx t, rowOf]

/-- The block of the activations' scales. -/
theorem blk2 (c : Dev nD) (t : Fin cfg0.N) (h : Fin 10) (r : Fin 1280) :
    (iblk m c 2 t : Vec Ideal S10x1280 .f32) (ix2 h r) = hsA m c (ix2 h (rowOf t r)) := by
  blk_point [iblk, V, idx t, rowOf]

/-- The block of the source's parts. -/
theorem blk3 (c : Dev nD) (t : Fin cfg0.N) (q : Fin 6) (h : Fin 10) (r : Fin 1280) :
    (iblk m c 3 t : Vec Ideal S6x10x1280 .f32) (ix3 q h r)
      = aSA m c (ix3 (⟨t.val / 2 * 6 + q.val, by have := lt_ten t; omega⟩ : Fin 30) h
          (⟨t.val % 2 * 1280 + r.val, by omega⟩ : Fin 2560)) := by
  blk_point [iblk, V, idx t]

/-- The block of the destination's parts. -/
theorem blk4 (c : Dev nD) (t : Fin cfg0.N) (q : Fin 6) (h : Fin 10) (r : Fin 1280) :
    (iblk m c 4 t : Vec Ideal S6x10x1280 .f32) (ix3 q h r)
      = aDA m c (ix3 (⟨t.val / 2 * 6 + q.val, by have := lt_ten t; omega⟩ : Fin 30) h
          (⟨t.val % 2 * 1280 + r.val, by omega⟩ : Fin 2560)) := by
  blk_point [iblk, V, idx t]

/-- The block of the source's attention vector is all of it. -/
theorem blk5 (c : Dev nD) (t : Fin cfg0.N) : (iblk m c 5 t : Vec Ideal S10x128 .f32) = sSA m c := by
  funext j
  blk_point [iblk, V, idx t]

/-- The block of the destination's attention vector is all of it. -/
theorem blk6 (c : Dev nD) (t : Fin cfg0.N) : (iblk m c 6 t : Vec Ideal S10x128 .f32) = sDA m c := by
  funext j
  blk_point [iblk, V, idx t]

/-- The place of a row among the parts. -/
theorem part_place (t : Fin cfg0.N) (q : Fin 6) (h : Fin 10) (r : Fin 1280) :
    (ix3 (⟨t.val / 2 * 6 + q.val, by have := lt_ten t; omega⟩ : Fin 30) h
          (⟨t.val % 2 * 1280 + r.val, by omega⟩ : Fin 2560) : (⟨3, ![30, 10, 2560]⟩ : Shape).Idx)
      = ix3 (⟨(rowOf t r).val / 2560 * 6 + q.val, by omega⟩ : Fin 30) h (⟨(rowOf t r).val % 2560, by omega⟩ : Fin 2560) := by
  have e0 : t.val / 2 = (rowOf t r).val / 2560 := by simp only [rowOf]; omega
  have e1 : t.val % 2 * 1280 + r.val = (rowOf t r).val % 2560 := by simp only [rowOf]; omega
  simp only [e0, e1]

/-- The sums of the source's parts, on a block. -/
theorem aBlk3 (c : Dev nD) (t : Fin cfg0.N) (h : Fin 10) (r : Fin 1280) :
    aBlk (iblk m c 3 t) h r = partSum (aSA m c) (rowOf t r) h :=
  Finset.sum_congr rfl fun q _ => (blk3 m c t q h r).trans (congrArg (aSA m c) (part_place t q h r))

/-- The sums of the destination's parts, on a block. -/
theorem aBlk4 (c : Dev nD) (t : Fin cfg0.N) (h : Fin 10) (r : Fin 1280) :
    aBlk (iblk m c 4 t) h r = partSum (aDA m c) (rowOf t r) h :=
  Finset.sum_congr rfl fun q _ => (blk4 m c t q h r).trans (congrArg (aDA m c) (part_place t q h r))

/-- The finished gradient, as the arguments give it. -/
abbrev fullA (c : Dev nD) : Fin 12800 → Fin 10 → Fin 128 → EReal := finFull (dhA m c) (aSA m c) (aDA m c) (sSA m c) (sDA m c)

/-- The finished gradient, on a block. -/
theorem full_blk (c : Dev nD) (t : Fin cfg0.N) (r : Fin 1280) :
    fullBlk (iblk m c 0 t) (iblk m c 3 t) (iblk m c 4 t) (iblk m c 5 t) (iblk m c 6 t) r = fullA m c (rowOf t r) := by
  funext h f
  rw [fullBlk, aBlk3, aBlk4, blk5, blk6, blk0]
  rfl

/-- What is asked of the arguments: real factors, and rows with a scale. -/
structure Fine (c : Dev nD) : Prop where
  hs : ∀ j, IsReal (hsA m c j)
  aS : ∀ j, IsReal (aSA m c j)
  aD : ∀ j, IsReal (aDA m c j)
  sS : ∀ j, IsReal (sSA m c j)
  sD : ∀ j, IsReal (sDA m c j)
  nonneg : ∀ n, 0 ≤ peakOf (fullA m c n)
  small : ∀ n, peakOf (fullA m c n) < word 253

section Points

variable {m} {c : Dev nD} (hF : Fine m c) (t : Fin cfg0.N)

include hF

theorem real2 (j : S10x1280.Idx) : IsReal ((iblk m c 2 t : Vec Ideal S10x1280 .f32) j) := by
  idx_vars j
  rw [blk2]
  exact hF.hs _

theorem real3 (j : S6x10x1280.Idx) : IsReal ((iblk m c 3 t : Vec Ideal S6x10x1280 .f32) j) := by
  idx_vars j
  rw [blk3]
  exact hF.aS _

theorem real4 (j : S6x10x1280.Idx) : IsReal ((iblk m c 4 t : Vec Ideal S6x10x1280 .f32) j) := by
  idx_vars j
  rw [blk4]
  exact hF.aD _

theorem real56 (s : Fin 2) (j : S10x128.Idx) :
    IsReal ((![iblk m c 5 t, iblk m c 6 t] : Fin 2 → Vec Ideal S10x128 .f32) s j) := by
  rw [blk5, blk6]
  fin_cases s
  · exact hF.sS j
  · exact hF.sD j

/-- The right factor is the one of the attention vectors at every grid point. -/
theorem right_kept (n : ℕ) : ∀ (h : n < cfg0.N) (k : Fin 160) (x : Fin 1280),
    (outsAt0 m c n h).2.2.2.1 (ix2 k x) = rightE ![sSA m c, sDA m c] k x := by
  induction n with
  | zero =>
    intro h k x
    rw [outsAt0_A m c ⟨0, h⟩ (by show 0 % 10 = 0; rfl) (by show ¬0 % 10 = 9; decide)]
    dsimp only
    refine (right_out_A (hreal := real56 hF ⟨0, h⟩) ..).trans ?_
    rw [blk5, blk6]
  | succ n ih =>
    intro h k x
    have hN : n + 1 < 10 := h
    by_cases h9 : (n + 1) % 10 = 9
    · rw [outsAt0_C m c ⟨n + 1, h⟩ (by show ¬ (n + 1) % 10 = 0; omega) h9]
      dsimp only
      exact ih (Nat.lt_of_succ_lt h) k x
    · rw [outsAt0_B m c ⟨n + 1, h⟩ (by show ¬ (n + 1) % 10 = 0; omega) h9]
      dsimp only
      exact ih (Nat.lt_of_succ_lt h) k x

/-- The right factor that a later grid point finds. -/
theorem right_found (h0 : ¬t.val % 10 = 0) (k : Fin 160) (x : Fin 1280) :
    (outsAt0 m c (t.val - 1) (Nat.lt_of_le_of_lt (Nat.sub_le _ _) t.isLt)).2.2.2.1 (ix2 k x)
      = rightE ![iblk m c 5 t, iblk m c 6 t] k x := by
  rw [blk5, blk6]
  exact right_kept hF _ _ k x

/-- The codes that a grid point leaves. -/
theorem codes_at (y : S1280x1280.Idx) : (outsAt0 m c t.val t.isLt).1 y
    = codeOf (fullA m c (rowOf t (y 0))) (headC (y 1)) (featC (y 1)) := by
  refine Eq.trans ?_ (congrArg (fun v => codeOf v (headC (y 1)) (featC (y 1))) (full_blk m c t (y 0)))
  by_cases h0 : t.val % 10 = 0
  · rw [outsAt0_A m c t h0 (by omega)]
    dsimp only
    exact codes_out_A (hreal := real56 hF t) (h3 := real3 hF t) (h4 := real4 hF t) ..
  · by_cases h9 : t.val % 10 = 9
    · rw [outsAt0_C m c t h0 h9]
      dsimp only
      exact codes_out_C (hR := right_found hF t h0) (h3 := real3 hF t) (h4 := real4 hF t) ..
    · rw [outsAt0_B m c t h0 h9]
      dsimp only
      exact codes_out_B (hR := right_found hF t h0) (h3 := real3 hF t) (h4 := real4 hF t) ..

/-- The scales that a grid point leaves. -/
theorem scales_at (y : S8x1280.Idx) : (outsAt0 m c t.val t.isLt).2.1 y = scaleWord (peakOf (fullA m c (rowOf t (y 1)))) := by
  refine Eq.trans ?_ (congrArg (fun v => scaleWord (peakOf v)) (full_blk m c t (y 1)))
  by_cases h0 : t.val % 10 = 0
  · rw [outsAt0_A m c t h0 (by omega)]
    dsimp only
    exact scales_out_A (hreal := real56 hF t) (h3 := real3 hF t) (h4 := real4 hF t) ..
  · by_cases h9 : t.val % 10 = 9
    · rw [outsAt0_C m c t h0 h9]
      dsimp only
      exact scales_out_C (hR := right_found hF t h0) (h3 := real3 hF t) (h4 := real4 hF t) ..
    · rw [outsAt0_B m c t h0 h9]
      dsimp only
      exact scales_out_B (hR := right_found hF t h0) (h3 := real3 hF t) (h4 := real4 hF t) ..

omit hF in
/-- What grid point `t` adds to the running sums. -/
def term (m : (ℓ : Loc nD τ sig) → Buf (Elt Ideal) ℓ) (c : Dev nD) (t : Fin cfg0.N) (y : S10x8x128.Idx) : EReal :=
  datStep (iblk m c 1 t) (iblk m c 2 t) (iblk m c 3 t) (iblk m c 4 t) (y 0) (y 1) (y 2)

/-- After the first point the running sums are that point's step. -/
theorem sums_first (h : t.val % 10 = 0) (y : S10x8x128.Idx) :
    ((outsAt0 m c t.val t.isLt).2.2.2.2 y : EReal) = 0 + term m c t y := by
  rw [outsAt0_A m c t h (by omega), zero_add]
  dsimp only
  exact dat_out_A (h2 := real2 hF t) (h3 := real3 hF t) (h4 := real4 hF t) ..

/-- After a later point the running sums are what they were, plus the point's step. -/
theorem sums_later (h : ¬t.val % 10 = 0) (y : S10x8x128.Idx) :
    ((outsAt0 m c t.val t.isLt).2.2.2.2 y : EReal)
      = (outsAt0 m c (t.val - 1) (Nat.lt_of_le_of_lt (Nat.sub_le _ _) t.isLt)).2.2.2.2 y + term m c t y := by
  by_cases h9 : t.val % 10 = 9
  · rw [outsAt0_C m c t h h9]
    dsimp only
    exact dat_out_C (h2 := real2 hF t) (h3 := real3 hF t) (h4 := real4 hF t) ..
  · rw [outsAt0_B m c t h h9]
    dsimp only
    exact dat_out_B (h2 := real2 hF t) (h3 := real3 hF t) (h4 := real4 hF t) ..

/-- The attention gradients that the last grid point leaves: three neighbouring running sums, added. -/
theorem attn_at (h9 : t.val % 10 = 9) (y : S2x10x128.Idx) : ((outsAt0 m c t.val t.isLt).2.2.1 y : EReal)
    = (outsAt0 m c t.val t.isLt).2.2.2.2
          (ix3 (y 1) (⟨3 * (y 0 : ℕ), by have : (y 0 : ℕ) < 2 := (y 0).isLt; omega⟩ : Fin 8) (y 2))
      + (outsAt0 m c t.val t.isLt).2.2.2.2
          (ix3 (y 1) (⟨3 * (y 0 : ℕ) + 1, by have : (y 0 : ℕ) < 2 := (y 0).isLt; omega⟩ : Fin 8) (y 2))
      + (outsAt0 m c t.val t.isLt).2.2.2.2
          (ix3 (y 1) (⟨3 * (y 0 : ℕ) + 2, by have : (y 0 : ℕ) < 2 := (y 0).isLt; omega⟩ : Fin 8) (y 2)) := by
  have h0 : ¬t.val % 10 = 0 := by omega
  have e := fun k => sums_later hF t h0 (ix3 (y 1) k (y 2))
  refine (congrArg (fun z => (z.2.2.1 y : EReal)) (outsAt0_C m c t h0 h9)).trans ?_
  dsimp only
  exact last_out_C (h2 := real2 hF t) (h3 := real3 hF t) (h4 := real4 hF t)
    (v := fun k => (outsAt0 m c t.val t.isLt).2.2.2.2 (ix3 (y 1) k (y 2))) (hv := e) ..

omit hF in
/-- A step of a running sum that nothing feeds. -/
theorem term_zero (h : Fin 10) (k : Fin 8) (f : Fin 128) (hk : ¬k.val % 3 = 0) : term m c t (ix3 h k f) = 0 := by
  unfold term datStep
  refine Finset.sum_eq_zero (M := EReal) fun r _ => ?_
  exact (congrArg (· * _) (if_neg hk)).trans (zero_mul _)

omit hF in
/-- A step of a running sum that is fed. -/
theorem term_fed (h : Fin 10) (k : Fin 8) (f : Fin 128) (s : Fin 2) (hk : k.val = 3 * s.val) : term m c t (ix3 h k f)
    = ∑ r : Fin 1280, (partSum (if s.val = 0 then aSA m c else aDA m c) (rowOf t r) h * hsA m c (ix2 h (rowOf t r)))
        * hcA m c (ix3 h (rowOf t r) f) := by
  unfold term datStep
  refine Finset.sum_congr (M := EReal) rfl fun r _ => ?_
  refine (congrArg (· * _) (if_pos (by show k.val % 3 = 0; omega))).trans ?_
  refine congrArg₂ (· * ·) (congrArg₂ (· * ·) ?_ (blk2 m c t h r)) (blk1 m c t h r f)
  have hs := s.isLt
  by_cases h0 : s.val = 0
  · exact (congrArg (fun z => aBlk z h r) (if_neg (by show ¬k.val = 3; omega))).trans
      ((aBlk3 m c t h r).trans (congrArg (fun z => partSum z (rowOf t r) h) (if_pos h0).symm))
  · exact (congrArg (fun z => aBlk z h r) (if_pos (by show k.val = 3; omega))).trans
      ((aBlk4 m c t h r).trans (congrArg (fun z => partSum z (rowOf t r) h) (if_neg h0).symm))

/-- The running sums after the last grid point. -/
theorem sums_last (h9 : t.val % 10 = 9) (y : S10x8x128.Idx) : ((outsAt0 m c t.val t.isLt).2.2.2.2 y : EReal)
    = ∑ s : Fin 10, term m c ⟨s.val, s.isLt⟩ y := by
  have hN := lt_ten t
  refine (Pipeline.eq_sum_fin_of_reset_step_apply_of_flush (M := EReal) (fun n h => (outsAt0 m c n h).2.2.2.2) 10 (fun _ => 0)
    (term m c) (fun t h y => sums_first hF t h y) (fun t h y => sums_later hF t h y) t h9 y).trans ?_
  rw [zero_add]
  refine Finset.sum_congr rfl fun s _ => ?_
  congr 1
  exact Fin.ext (by show 10 * (t.val / 10) + s.val = s.val; omega)

end Points

/-- Where a block's code lies in the array. -/
theorem place7 (t : Fin cfg0.N) (y : S1280x1280.Idx) :
    (win0_7.blk t).view.emb y = (ix2 (rowOf t (y 0)) (y 1) : S12800x1280.Idx) := by blk_ext [idx t, rowOf]

/-- Where a block's scale lies in the array. -/
theorem place8 (t : Fin cfg0.N) (y : S8x1280.Idx) :
    (win0_8.blk t).view.emb y = (ix2 (y 0) (rowOf t (y 1)) : S8x12800.Idx) := by blk_ext [idx t, rowOf]

/-- A code, named by its row and column. -/
theorem codes_row (c : Dev nD) (n : Fin 12800) (x : Fin 1280) :
    Cert.Proof.finCodes (dhA m c) (aSA m c) (aDA m c) (sSA m c) (sDA m c) (ix2 n x)
      = min (Ideal.ofBits .f32 0x47600000#32) (max (Ideal.ofBits .f32 0xC7600000#32)
        (Ideal.div (fullA m c n (headC x) (featC x)) (scaleOf (peakOf (fullA m c n))))) := by exact rfl

/-- A scale, named by its row. -/
theorem scales_row (c : Dev nD) (k : Fin 8) (n : Fin 12800) :
    Cert.Proof.finScales (dhA m c) (aSA m c) (aDA m c) (sSA m c) (sDA m c) (ix2 k n) = scaleOf (peakOf (fullA m c n)) := by exact rfl

section Final

variable (c : Dev nD) (hF : Fine m c)

include hF

/-- The codes after the run. -/
theorem codes_final : (dats m 0 c).arrAt 7 cfg0.N
    = Cert.Proof.finCodes (dhA m c) (aSA m c) (aDA m c) (sSA m c) (sDA m c) := by
  refine (dats m 0 c).arrAt_eq_of_covers 7 _ (by decide +kernel) fun t hf y => ?_
  blk_simp
  rw [after0_7]
  refine (codes_at hF t y).trans ?_
  rw [codeOf, (Cert.Proof.scaleWord_eq _ (hF.nonneg _) (hF.small _)).2]
  exact (codes_row m c (rowOf t (y 0)) (y 1)).symm.trans
    (congrArg (Cert.Proof.finCodes (dhA m c) (aSA m c) (aDA m c) (sSA m c) (sDA m c)) (place7 t y).symm)

/-- The scales after the run. -/
theorem scales_final : (dats m 0 c).arrAt 8 cfg0.N
    = Cert.Proof.finScales (dhA m c) (aSA m c) (aDA m c) (sSA m c) (sDA m c) := by
  refine (dats m 0 c).arrAt_eq_of_covers 8 _ (by decide +kernel) fun t hf y => ?_
  blk_simp
  rw [after0_8]
  refine (scales_at hF t y).trans ?_
  rw [(Cert.Proof.scaleWord_eq _ (hF.nonneg _) (hF.small _)).1]
  exact (scales_row m c (y 0) (rowOf t (y 1))).symm.trans
    (congrArg (Cert.Proof.finScales (dhA m c) (aSA m c) (aDA m c) (sSA m c) (sDA m c)) (place8 t y).symm)

/-- The attention gradients after the run. -/
theorem attn_final : (dats m 0 c).arrAt 9 cfg0.N
    = Cert.Proof.finAttn (hcA m c) (hsA m c) (aSA m c) (aDA m c) := by
  refine (dats m 0 c).arrAt_eq_of_covers 9 _ (by decide +kernel) fun t hf y => ?_
  blk_simp
  rw [after0_9]
  have h9 := (flush0_9 t).mp hf
  refine (attn_at hF t h9 y).trans ?_
  rw [sums_last hF t h9, sums_last hF t h9, sums_last hF t h9]
  have l0 : (y 0 : ℕ) < 2 := (y 0).isLt
  refine (congrArg₂ (· + ·) (congrArg₂ (· + ·) (Finset.sum_congr rfl fun s _ => term_fed _ _ _ _ (y 0) rfl)
    (Finset.sum_eq_zero fun s _ => term_zero _ _ _ _ (by show ¬(3 * (y 0 : ℕ) + 1) % 3 = 0; omega)))
    (Finset.sum_eq_zero fun s _ => term_zero _ _ _ _ (by show ¬(3 * (y 0 : ℕ) + 2) % 3 = 0; omega))).trans ?_
  rw [add_zero, add_zero]
  have e : (win0_9.blk t).view.emb y = (ix3 (y 0) (y 1) (y 2) : S2x10x128.Idx) := by blk_ext [idx t]
  refine Eq.trans ?_ (congrArg (Cert.Proof.finAttn (hcA m c) (hsA m c) (aSA m c) (aDA m c)) e.symm)
  exact Fin.sum_mul_add_congr fun s k hl => rfl

end Final

/-- The whole run: it ends, the results are the three functions of the arguments, and the arguments are as they were. -/
theorem run_values (hA : ∀ c, Fine m c) : θ_run defs (onTc (τ := τ) (main (F := Ideal))) ⟨m, fun _ => 0, ρ⟩ fun r => ∀ c : Dev nD,
      r.2.mem ((c : Thread nD τ).loc main_v0_0) = Cert.Proof.finCodes (dhA m c) (aSA m c) (aDA m c) (sSA m c) (sDA m c)
      ∧ r.2.mem ((c : Thread nD τ).loc main_v0_1) = Cert.Proof.finScales (dhA m c) (aSA m c) (aDA m c) (sSA m c) (sDA m c)
      ∧ r.2.mem ((c : Thread nD τ).loc main_v0_2) = Cert.Proof.finAttn (hcA m c) (hsA m c) (aSA m c) (aDA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (codes_final m c (hA c)), (h c).2.1.trans (scales_final m c (hA c)),
    (h c).2.2.1.trans (attn_final m c (hA c)), (h c).2.2.2⟩) (run_blocks m ρ)

end Cert.KernelFinIdeal.Value

end
-- ==== Proof.BoundsFin.lean ====
/-
  The bounds on the arguments give what the kernel's value needs: the factors are real numbers, and each row's largest absolute
  value times the constant is below the last powers of two.
-/
module

public import proofs.«01_k».proof.Pre_pre_fin
public import proofs.«01_k».proof.Proof.KernelFin

@[expose] public section

noncomputable section

namespace Cert.Proof

open Idealize.ShloMosaic

/-- The absolute value is below a real bound. -/
def Below (b : ℝ) (x : EReal) : Prop := ∃ r : ℝ, x = (r : EReal) ∧ |r| ≤ b

/-- A bounded number is real. -/
theorem Below.isReal {b : ℝ} {x : EReal} (h : Below b x) : IsReal x := let ⟨r, e, _⟩ := h; ⟨r, e⟩

/-- Products of bounded numbers. -/
theorem Below.mul {a b : ℝ} {x y : EReal} (hx : Below a x) (hy : Below b y) : Below (a * b) (x * y) := by
  obtain ⟨r, rfl, hr⟩ := hx
  obtain ⟨s, rfl, hs⟩ := hy
  refine ⟨r * s, (EReal.coe_mul r s).symm, ?_⟩
  rw [abs_mul]
  exact mul_le_mul hr hs (abs_nonneg s) ((abs_nonneg r).trans hr)

/-- Sums of bounded numbers. -/
theorem Below.add {a b : ℝ} {x y : EReal} (hx : Below a x) (hy : Below b y) : Below (a + b) (x + y) := by
  obtain ⟨r, rfl, hr⟩ := hx
  obtain ⟨s, rfl, hs⟩ := hy
  exact ⟨r + s, (EReal.coe_add r s).symm, (abs_add_le r s).trans (add_le_add hr hs)⟩

/-- A sum of six bounded numbers. -/
theorem Below.sum_six {b : ℝ} (f : Fin 6 → EReal) (hf : ∀ k, Below b (f k)) : Below (6 * b) (∑ k, f k) := by
  have h := ((((((hf 0).add (hf 1)).add (hf 2)).add (hf 3)).add (hf 4)).add (hf 5))
  rw [Fin.sum_univ_six]
  have e : b + b + b + b + b + b = 6 * b := by ring
  exact e ▸ h

/-- A number whose absolute value is below a word's is bounded by the word's power of two. -/
theorem below_of_lt {x : EReal} (t : ℕ) (h0 : 1 ≤ t) (h1 : t ≤ 254) (h : max x (-x) < word t) : Below ((2 : ℝ) ^ ((t : ℤ) - 127)) x := by
  rw [word_eq t h0 h1] at h
  induction x with
  | bot => simp at h
  | top => simp at h
  | coe r =>
    refine ⟨r, rfl, ?_⟩
    rw [← EReal.coe_neg] at h
    have h2 := max_lt_iff.mp h
    rw [EReal.coe_lt_coe_iff, EReal.coe_lt_coe_iff] at h2
    exact abs_le.mpr ⟨by linarith [h2.2], h2.1.le⟩

/-- A number whose absolute value is not infinite is real. -/
theorem isReal_of_lt {x : EReal} (h : max x (-x) < ⊤) : IsReal x := by
  induction x with
  | bot => simp at h
  | top => simp at h
  | coe r => exact ⟨r, rfl⟩

/-- The constant is a positive real below 1. -/
theorem const_real : ∃ k : ℝ, Ideal.ofBits .f32 0x37924925#32 = (k : EReal) ∧ 0 < k ∧ k < 1 := by
  refine ⟨9586981 * 2 ^ (-39 : ℤ), ?_, ?_, ?_⟩
  · simp [Ideal.ofBits, Ideal.ieee, -EReal.coe_mul]
  · norm_num
  · norm_num

/-- A row of numbers below `2 ^ 122`: the largest absolute value times the constant is not negative, and below `2 ^ 126`. -/
theorem peak_bounds (v : Fin 10 → Fin 128 → EReal) (hv : ∀ h f, Below ((2 : ℝ) ^ (122 : ℤ)) (v h f)) :
    0 ≤ peakOf v ∧ peakOf v < word 253 := by
  obtain ⟨k, hk, hk0, hk1⟩ := const_real
  have hle : (⨆ f : Fin 128, ⨆ h : Fin 10, max (v h f) (-(v h f))) ≤ (((2 : ℝ) ^ (122 : ℤ) : ℝ) : EReal) := by
    refine iSup_le fun f => iSup_le fun h => ?_
    obtain ⟨r, e, hr⟩ := hv h f
    rw [e, ← EReal.coe_neg, max_le_iff, EReal.coe_le_coe_iff, EReal.coe_le_coe_iff]
    exact ⟨(le_abs_self r).trans hr, (neg_le_abs r).trans hr⟩
  have hge : (0 : EReal) ≤ ⨆ f : Fin 128, ⨆ h : Fin 10, max (v h f) (-(v h f)) := by
    refine le_iSup_of_le 0 (le_iSup_of_le 0 ?_)
    obtain ⟨r, e, hr⟩ := hv 0 0
    rw [e, ← EReal.coe_neg, ← EReal.coe_zero, le_max_iff, EReal.coe_le_coe_iff, EReal.coe_le_coe_iff]
    rcases le_total 0 r with h | h
    · exact .inl h
    · exact .inr (by linarith)
  have hkE : (0 : EReal) ≤ (k : EReal) := by
    rw [← EReal.coe_zero, EReal.coe_le_coe_iff]
    exact hk0.le
  rw [peakOf, hk]
  refine ⟨mul_nonneg hge hkE, (mul_le_mul_of_nonneg_right hle hkE).trans_lt ?_⟩
  rw [word_eq 253 (by norm_num) (by norm_num), ← EReal.coe_mul, EReal.coe_lt_coe_iff]
  have h1 : (2 : ℝ) ^ (122 : ℤ) * k < (2 : ℝ) ^ (122 : ℤ) * 1 := mul_lt_mul_of_pos_left hk1 (by positivity)
  refine h1.trans ?_
  norm_num

/-- The finished gradient is below `2 ^ 122`. -/
theorem full_below (dh : Vec Ideal ⟨3, ![10, 12800, 128]⟩ .f32) (aS aD : Vec Ideal ⟨3, ![30, 10, 2560]⟩ .f32)
    (sS sD : Vec Ideal ⟨2, ![10, 128]⟩ .f32) (h0 : ∀ j, Below ((2 : ℝ) ^ (120 : ℤ)) (dh j)) (h3 : ∀ j, Below ((2 : ℝ) ^ (58 : ℤ)) (aS j))
    (h4 : ∀ j, Below ((2 : ℝ) ^ (58 : ℤ)) (aD j)) (h5 : ∀ j, Below ((2 : ℝ) ^ (60 : ℤ)) (sS j)) (h6 : ∀ j, Below ((2 : ℝ) ^ (60 : ℤ)) (sD j))
    (n : Fin 12800) (h : Fin 10) (f : Fin 128) : Below ((2 : ℝ) ^ (122 : ℤ)) (finFull dh aS aD sS sD n h f) := by
  have hs : Below (6 * (2 : ℝ) ^ (58 : ℤ)) (partSum aS n h) := Below.sum_six _ fun q => h3 _
  have hd : Below (6 * (2 : ℝ) ^ (58 : ℤ)) (partSum aD n h) := Below.sum_six _ fun q => h4 _
  obtain ⟨r, e, hr⟩ := (h0 (ix3 h n f)).add ((hs.mul (h5 (ix2 h f))).add (hd.mul (h6 (ix2 h f))))
  exact ⟨r, e, hr.trans (by norm_num)⟩

/-- A mask of a bound that is a power of two (or infinity), read at an index. -/
theorem mask_word {s : Shape} (x : FVec Ideal s .f32) (w : BitVec 32) (t : ℕ) (ht : w = BitVec.ofNat 32 t <<< 23)
    (bc : (⟨0, ![]⟩ : Shape).BroadcastsInDim s (![] : Fin 0 → Fin s.rank))
    (h : cmpf (F := Ideal) .olt (Host.absf (F := Ideal) x) (broadcastInDim s ![] bc (constant (F := Ideal) ⟨0, ![]⟩ .f32 w)) = fun _ => 1#1)
    (j : s.Idx) : max (x j) (-(x j)) < word t := by
  have h1 := congrFun h j
  subst ht
  have h2 : max (x j) (-(x j)) < Ideal.ofBits .f32 (BitVec.ofNat 32 t <<< 23) := by
    by_contra hn
    have h3 : BitVec.ofBool (decide (max (x j) (-(x j)) < Ideal.ofBits .f32 (BitVec.ofNat 32 t <<< 23))) = 1#1 := h1
    rw [decide_eq_false hn] at h3
    exact absurd h3 (by decide)
  exact h2

open Cert.KernelFinIdeal Cert.KernelFinIdeal.Value in
/-- Arguments within the bounds have everything the kernel's value needs. -/
theorem fine [hP : Cert.Pre_pre_fin.Facts] (m : (ℓ : Loc nD τ sig) → Buf (Elt Ideal) ℓ) (c : Dev nD)
    (h : (Cert.Pre_pre_fin.fn (F := Ideal) (dhA m c) (hcA m c) (hsA m c) (aSA m c) (aDA m c) (sSA m c) (sDA m c)).1 = (fun _ => 1#1)
      ∧ (Cert.Pre_pre_fin.fn (F := Ideal) (dhA m c) (hcA m c) (hsA m c) (aSA m c) (aDA m c) (sSA m c) (sDA m c)).2.1 = (fun _ => 1#1)
      ∧ (Cert.Pre_pre_fin.fn (F := Ideal) (dhA m c) (hcA m c) (hsA m c) (aSA m c) (aDA m c) (sSA m c) (sDA m c)).2.2.1 = (fun _ => 1#1)
      ∧ (Cert.Pre_pre_fin.fn (F := Ideal) (dhA m c) (hcA m c) (hsA m c) (aSA m c) (aDA m c) (sSA m c) (sDA m c)).2.2.2.1 = (fun _ => 1#1)
      ∧ (Cert.Pre_pre_fin.fn (F := Ideal) (dhA m c) (hcA m c) (hsA m c) (aSA m c) (aDA m c) (sSA m c) (sDA m c)).2.2.2.2.1 = (fun _ => 1#1)
      ∧ (Cert.Pre_pre_fin.fn (F := Ideal) (dhA m c) (hcA m c) (hsA m c) (aSA m c) (aDA m c) (sSA m c) (sDA m c)).2.2.2.2.2 = (fun _ => 1#1)) :
    Fine m c := by
  obtain ⟨h0, h2, h3, h4, h5, h6⟩ := h
  have b0 := fun j => below_of_lt 247 (by norm_num) (by norm_num) (mask_word (dhA m c) 0x7B800000#32 247 (by decide) _ h0 j)
  have b2 := fun j => mask_word (hsA m c) 0x7F800000#32 255 (by decide) _ h2 j
  have b3 := fun j => below_of_lt 185 (by norm_num) (by norm_num) (mask_word (aSA m c) 0x5C800000#32 185 (by decide) _ h3 j)
  have b4 := fun j => below_of_lt 185 (by norm_num) (by norm_num) (mask_word (aDA m c) 0x5C800000#32 185 (by decide) _ h4 j)
  have b5 := fun j => below_of_lt 187 (by norm_num) (by norm_num) (mask_word (sSA m c) 0x5D800000#32 187 (by decide) _ h5 j)
  have b6 := fun j => below_of_lt 187 (by norm_num) (by norm_num) (mask_word (sDA m c) 0x5D800000#32 187 (by decide) _ h6 j)
  have e := fun n => peak_bounds (fullA m c n) fun h f => full_below _ _ _ _ _ b0 b3 b4 b5 b6 n h f
  exact ⟨fun j => isReal_of_lt (word_255 ▸ b2 j), fun j => (b3 j).isReal, fun j => (b4 j).isReal, fun j => (b5 j).isReal,
    fun j => (b6 j).isReal, fun n => (e n).1, fun n => (e n).2⟩

end Cert.Proof

end
-- ==== Proof.ReferenceFinRows.lean ====
/-
  The host part of the reference that finishes the gradient, as functions of whole arrays: the sums of the parts, the finished rows,
  the rows' largest values and their scales.
-/
module

public import proofs.«01_k».proof.Proof.SpecFin
public import proofs.«01_k».proof.Proof.Gen.ReferenceFinIdeal.Value

@[expose] public section

set_option maxRecDepth 16384

noncomputable section

namespace Cert.ReferenceFinIdeal.Value

open Cert.Proof Cert.ReferenceFinIdeal Cert.ReferenceFinIdeal.Gen Idealize.ShloMosaic Idealize.ShloMosaic.TcCoe Idealize.SL.Sem

/-- The sums of the parts, one row per node. -/
def partsV (p : FVec Ideal S30x10x2560 .f32) : FVec Ideal S12800x10 .f32 :=
  shapeCast S12800x10 (transpose S5x2560x10 [0, 2, 1] (Host.reduceAdd (F := Ideal) (shapeCast S5x6x10x2560 p shapeCasts_S30x10x2560_S5x6x10x2560)
    (constant (F := Ideal) S_ FTy.f32 0#32) reducesTo_S5x6x10x2560_S5x10x2560_d1 h_S_) transposes_S5x10x2560_S5x2560x10_0_2_1)
    shapeCasts_S5x2560x10_S12800x10

/-- One of the two terms that finish the gradient. -/
def sideV (p : FVec Ideal S30x10x2560 .f32) (s : FVec Ideal S10x128 .f32) : FVec Ideal S12800x10x128 .f32 :=
  mulf (F := Ideal) (broadcastInDim S12800x10x128 ![0, 1, 2] bcast_S12800x10x1_S12800x10x128_0_1_2
      (broadcastInDim S12800x10x1 ![0, 1] bcast_S12800x10_S12800x10x1_0_1 (partsV p)))
    (broadcastInDim S12800x10x128 ![0, 1, 2] bcast_S1x10x128_S12800x10x128_0_1_2
      (broadcastInDim S1x10x128 ![1, 2] bcast_S10x128_S1x10x128_1_2 s))

/-- The finished gradient, one row per node. -/
def fullV (dh : FVec Ideal S10x12800x128 .f32) (p q : FVec Ideal S30x10x2560 .f32) (s d : FVec Ideal S10x128 .f32) :
    FVec Ideal S12800x1280 .f32 :=
  shapeCast S12800x1280 (addf (F := Ideal) (addf (F := Ideal) (transpose S12800x10x128 [1, 0, 2] dh transposes_S10x12800x128_S12800x10x128_1_0_2)
    (sideV p s)) (sideV q d)) shapeCasts_S12800x10x128_S12800x1280

/-- The largest absolute value of each row, times the constant. -/
def peakV (x : FVec Ideal S12800x1280 .f32) : FVec Ideal S12800 .f32 :=
  mulf (F := Ideal) (Host.reduce (FloatOps.maximumf (F := Ideal) (φ := .f32)) (Host.absf (F := Ideal) x) (constant (F := Ideal) S_ FTy.f32 4286578688#32) reducesTo_S12800x1280_S12800_d1 h_S_)
    (broadcastInDim S12800 ![] bcast_S_S12800 (constant (F := Ideal) S_ FTy.f32 932333861#32))

/-- The powers of two. -/
def powerV : FVec Ideal S254 .f32 :=
  Host.powf (F := Ideal) (broadcastInDim S254 ![] bcast_S_S254 (constant (F := Ideal) S_ FTy.f32 1073741824#32))
    (sitofp (F := Ideal) FTy.f32 (addi (broadcastInDim S254 ![] bcast_S_S254 (constantI S_ 32 4294967170#32)) (iotaInDim S254 32 0)))

/-- Each row's scale. -/
def scaleV (a : FVec Ideal S12800 .f32) : FVec Ideal S12800 .f32 :=
  select (cmpf (F := Ideal) .oeq a (broadcastInDim S12800 ![] bcast_S_S12800 (constant (F := Ideal) S_ FTy.f32 0#32)))
    (broadcastInDim S12800 ![] bcast_S_S12800 (constant (F := Ideal) S_ FTy.f32 1065353216#32))
    (Host.reduce (FloatOps.minimumf (F := Ideal) (φ := .f32))
      (select (cmpf (F := Ideal) .ogt (broadcastInDim S12800x254 ![0, 1] bcast_S1x254_S12800x254_0_1 (broadcastInDim S1x254 ![1] bcast_S254_S1x254_1 powerV))
          (broadcastInDim S12800x254 ![0, 1] bcast_S12800x1_S12800x254_0_1 (broadcastInDim S12800x1 ![0] bcast_S12800_S12800x1_0 a)))
        (broadcastInDim S12800x254 ![1] bcast_S254_S12800x254_1 powerV)
        (broadcastInDim S12800x254 ![] bcast_S_S12800x254 (constant (F := Ideal) S_ FTy.f32 2139095040#32)))
      (constant (F := Ideal) S_ FTy.f32 2139095040#32) reducesTo_S12800x254_S12800_d1 h_S_)

/-- A part sum of one node. -/
theorem partsV_apply (p : FVec Ideal S30x10x2560 .f32) (n : Fin 12800) (h : Fin 10) : partsV p (ix2 n h) = partSum p n h := by
  pointwise [partsV, partSum]

/-- A finishing term at a node, head and feature. -/
theorem sideV_apply (p : FVec Ideal S30x10x2560 .f32) (s : FVec Ideal S10x128 .f32) (n : Fin 12800) (h : Fin 10) (f : Fin 128) :
    sideV p s (ix3 n h f) = partSum p n h * s (ix2 h f) := by
  pointwise [sideV]
  rw [partsV_apply]

/-- The finished gradient at a node and column. -/
theorem fullV_apply (dh : FVec Ideal S10x12800x128 .f32) (p q : FVec Ideal S30x10x2560 .f32) (s d : FVec Ideal S10x128 .f32)
    (n : Fin 12800) (x : Fin 1280) : fullV dh p q s d (ix2 n x) = finFull dh p q s d n (headC x) (featC x) := by
  pointwise [fullV]
  rw [sideV_apply, sideV_apply]
  exact add_assoc ..

/-- A fold of maxima from minus infinity is a supremum. -/
theorem fold_max {n : ℕ} (f : Fin n → EReal) : Finset.fold max (Ideal.ofBits .f32 0xFF800000#32) f Finset.univ = ⨆ x, f x := by
  have h : Ideal.ofBits .f32 0xFF800000#32 = ⊥ := by simp [Ideal.ofBits, Ideal.ieee]
  rw [h]
  exact Finset.sup_univ_eq_iSup f

/-- A fold of minima from plus infinity is an infimum. -/
theorem fold_min {n : ℕ} (f : Fin n → EReal) : Finset.fold min (Ideal.ofBits .f32 0x7F800000#32) f Finset.univ = ⨅ x, f x := by
  have h : Ideal.ofBits .f32 0x7F800000#32 = ⊤ := by simp [Ideal.ofBits, Ideal.ieee]
  rw [h]
  exact Finset.inf_univ_eq_iInf f

/-- A supremum over the columns is one over features and heads. -/
theorem iSup_columns (g : Fin 10 → Fin 128 → EReal) : (⨆ x : Fin 1280, g (headC x) (featC x)) = ⨆ f : Fin 128, ⨆ h : Fin 10, g h f := by
  refine le_antisymm (iSup_le fun x => le_iSup_of_le (featC x) (le_iSup_of_le (headC x) le_rfl)) ?_
  refine iSup_le fun f => iSup_le fun h => ?_
  refine le_iSup_of_le (⟨h.val * 128 + f.val, by omega⟩ : Fin 1280) (le_of_eq ?_)
  congr 1
  · exact Fin.ext (show h.val = (h.val * 128 + f.val) / 128 by omega)
  · exact Fin.ext (show f.val = (h.val * 128 + f.val) % 128 by omega)

/-- The exponents run from -126. -/
theorem exponent : ∀ k : Fin 254, (IntOp.addi (4294967170#32) (BitVec.ofNat 32 k.val)).toInt = (k.val : ℤ) - 126 := by
  decide +kernel

/-- The word of 2.0. -/
theorem two : Ideal.ofBits .f32 1073741824#32 = ((2 : ℝ) : EReal) := by
  have h := word_eq 128 (by norm_num) (by norm_num)
  norm_num at h
  exact h

/-- The powers of two, one by one. -/
theorem powerV_apply (k : Fin 254) : powerV (ix1 k) = power k := by
  pointwise [powerV]
  rw [two, power, word_eq _ (by omega) (by omega)]
  have h : FloatOps.sitofp (F := Ideal) FTy.f32 (IntOp.addi (4294967170#32) (BitVec.ofNat 32 k.val)) = ((((k.val : ℤ) - 126 : ℤ) : ℝ) : EReal) := by
    rw [← exponent k]
    rfl
  rw [h]
  show (((2 : ℝ) ^ ((((k.val : ℤ) - 126 : ℤ) : ℝ)) : ℝ) : EReal) = _
  rw [Real.rpow_intCast]
  congr 2
  push_cast
  ring

/-- The largest entry of a row, as a fold. -/
theorem rowMax (x : FVec Ideal S12800x1280 .f32) (n : Fin 12800) :
    Host.reduce (FloatOps.maximumf (F := Ideal) (φ := .f32)) x (constant (F := Ideal) S_ FTy.f32 4286578688#32) reducesTo_S12800x1280_S12800_d1 h_S_ (ix1 n)
      = Finset.fold max (Ideal.ofBits .f32 0xFF800000#32) (fun c : Fin 1280 => x (ix2 n c)) Finset.univ := by
  rw [Host.reduce_eq_fold]
  rw [Shape.ReducesTo.fold_fiber_r2_a1]
  rfl

/-- The row's value as a fold. -/
theorem peakV_fold (x : FVec Ideal S12800x1280 .f32) (n : Fin 12800) :
    peakV x (ix1 n) = Finset.fold max (Ideal.ofBits .f32 0xFF800000#32) (fun c : Fin 1280 => Host.absf (F := Ideal) x (ix2 n c)) Finset.univ * Ideal.ofBits .f32 0x37924925#32 := by
  unfold peakV
  rw [mulf_apply, rowMax]
  rfl

/-- The absolute value of an entry. -/
theorem absf_row (x : FVec Ideal S12800x1280 .f32) (n : Fin 12800) (c : Fin 1280) :
    Host.absf (F := Ideal) x (ix2 n c) = max (x (ix2 n c)) (-(x (ix2 n c))) := by
  pointwise []
  rfl

/-- A row's largest absolute value times the constant. -/
theorem peakV_apply (x : FVec Ideal S12800x1280 .f32) (g : Fin 10 → Fin 128 → EReal) (n : Fin 12800)
    (hx : ∀ c : Fin 1280, x (ix2 n c) = g (headC c) (featC c)) : peakV x (ix1 n) = peakOf g := by
  rw [peakV_fold, fold_max, peakOf, ← iSup_columns fun h f => max (g h f) (-(g h f))]
  congr 2
  funext c
  rw [absf_row, hx c]

/-- A row's scale. -/
theorem scaleV_apply (a : FVec Ideal S12800 .f32) (n : Fin 12800) : scaleV a (ix1 n) = scaleOf (a (ix1 n)) := by
  pointwise [scaleV]
  have h : Ideal.ofBits .f32 2139095040#32 = ⊤ := by simp [Ideal.ofBits, Ideal.ieee]
  simp only [powerV_apply]
  rw [fold_min, h]
  rfl

end Cert.ReferenceFinIdeal.Value

end
-- ==== Proof.ReferenceFinHost.lean ====
/-
  The arrays that the host part of the reference leaves for its region, as the functions of ReferenceFinRows.lean of the arguments.
-/
module

public import proofs.«01_k».proof.Proof.ReferenceFinRows
public import Idealize.ShloMosaic.Lib.StableHlo.RunRead

@[expose] public section

set_option maxRecDepth 16384

noncomputable section

namespace Cert.ReferenceFinIdeal.Value

open Cert.Proof Cert.ReferenceFinIdeal Cert.ReferenceFinIdeal.Gen Idealize.ShloMosaic Idealize.ShloMosaic.TcCoe Idealize.SL.Sem

variable (m : (ℓ : Loc nD τ sig) → Buf (Elt Ideal) ℓ)

/-- The finished rows. -/
theorem v21 (c : Dev nD) : (V m c main_v21 : Vec Ideal S12800x1280 .f32) = fullV (m ((c : Thread nD τ).loc main_arg0)) (m ((c : Thread nD τ).loc main_arg3))
    (m ((c : Thread nD τ).loc main_arg4)) (m ((c : Thread nD τ).loc main_arg5)) (m ((c : Thread nD τ).loc main_arg6)) := by
  unfold V
  simp only [hostOps0, hostOps0_1, hostOps0_2, hostOps0_3, hostOps0_4, List.flatten_cons, List.flatten_nil, List.append_nil, List.cons_append,
      List.nil_append]
  after_reads_simp
  rfl

/-- The scales, as a column. -/
theorem v42 (c : Dev nD) : (V m c main_v42 : Vec Ideal S12800x1 .f32) = broadcastInDim S12800x1 ![0] bcast_S12800_S12800x1_0
    (scaleV (peakV (fullV (m ((c : Thread nD τ).loc main_arg0)) (m ((c : Thread nD τ).loc main_arg3))
    (m ((c : Thread nD τ).loc main_arg4)) (m ((c : Thread nD τ).loc main_arg5)) (m ((c : Thread nD τ).loc main_arg6))))) := by
  unfold V
  simp only [hostOps0, hostOps0_1, hostOps0_2, hostOps0_3, hostOps0_4, List.flatten_cons, List.flatten_nil, List.append_nil, List.cons_append,
      List.nil_append]
  after_reads_simp
  simp -implicitDefEqProofs only [StableHlo.TRef.toBuf, StableHlo.TRef.ofBuf, cast_cast, cast_eq]
  rfl

/-- The scales, as a row. -/
theorem v43 (c : Dev nD) : (V m c main_v43 : Vec Ideal S1x12800 .f32) = broadcastInDim S1x12800 ![1] bcast_S12800_S1x12800_1
    (scaleV (peakV (fullV (m ((c : Thread nD τ).loc main_arg0)) (m ((c : Thread nD τ).loc main_arg3))
    (m ((c : Thread nD τ).loc main_arg4)) (m ((c : Thread nD τ).loc main_arg5)) (m ((c : Thread nD τ).loc main_arg6))))) := by
  unfold V
  simp only [hostOps0, hostOps0_1, hostOps0_2, hostOps0_3, hostOps0_4, List.flatten_cons, List.flatten_nil, List.append_nil, List.cons_append,
      List.nil_append]
  after_reads_simp
  simp -implicitDefEqProofs only [StableHlo.TRef.toBuf, StableHlo.TRef.ofBuf, cast_cast, cast_eq]
  rfl

/-- The activations' scales. -/
theorem v44 (c : Dev nD) : (V m c main_v44 : Vec Ideal S10x12800x1 .f32) = broadcastInDim S10x12800x1 ![0, 1] bcast_S10x12800_S10x12800x1_0_1 (m ((c : Thread nD τ).loc main_arg2)) := by
  unfold V
  simp only [hostOps0, hostOps0_1, hostOps0_2, hostOps0_3, hostOps0_4, List.flatten_cons, List.flatten_nil, List.append_nil, List.cons_append,
      List.nil_append]
  after_reads_simp

/-- The source's sums of the parts. -/
theorem v46 (c : Dev nD) : (V m c main_v46 : Vec Ideal S10x12800x1 .f32) = broadcastInDim S10x12800x1 ![0, 1] bcast_S10x12800_S10x12800x1_0_1
    (transpose S10x12800 [1, 0] (partsV (m ((c : Thread nD τ).loc main_arg3))) transposes_S12800x10_S10x12800_1_0) := by
  unfold V
  simp only [hostOps0, hostOps0_1, hostOps0_2, hostOps0_3, hostOps0_4, List.flatten_cons, List.flatten_nil, List.append_nil, List.cons_append,
      List.nil_append]
  after_reads_simp
  rfl

/-- The destination's sums of the parts. -/
theorem v48 (c : Dev nD) : (V m c main_v48 : Vec Ideal S10x12800x1 .f32) = broadcastInDim S10x12800x1 ![0, 1] bcast_S10x12800_S10x12800x1_0_1
    (transpose S10x12800 [1, 0] (partsV (m ((c : Thread nD τ).loc main_arg4))) transposes_S12800x10_S10x12800_1_0) := by
  unfold V
  simp only [hostOps0, hostOps0_1, hostOps0_2, hostOps0_3, hostOps0_4, List.flatten_cons, List.flatten_nil, List.append_nil, List.cons_append,
      List.nil_append]
  after_reads_simp
  rfl

end Cert.ReferenceFinIdeal.Value

end
-- ==== Proof.ReferenceFinBlocks.lean ====
/-
  The blocks of the reference's one region: each window is its whole array, and each output block is a function of the input blocks.
-/
module

public import proofs.«01_k».proof.Proof.ReferenceFinRows

@[expose] public section

set_option maxRecDepth 16384

noncomputable section

namespace Cert.ReferenceFinIdeal.Value

open Cert.Proof Cert.ReferenceFinIdeal Cert.ReferenceFinIdeal.Gen Idealize.ShloMosaic Idealize.ShloMosaic.TcCoe Idealize.SL.Sem

/-- The block of codes. -/
theorem out7 (x0 : Vec Ideal S12800x1280 .f32) (x1 : Vec Ideal S12800x1 .f32) (x2 : Vec Ideal S1x12800 .f32) (x3 : Vec Ideal S10x12800x128 .fp8e4m3) (x4 x5 x6 : Vec Ideal S10x12800x1 .f32) (y : S12800x1280.Idx) :
    out0_7 (F := Ideal) x0 x1 x2 x3 x4 x5 x6 y = min (Ideal.ofBits .f32 0x47600000#32) (max (Ideal.ofBits .f32 0xC7600000#32)
      (Ideal.div (x0 y) (x1 (ix2 (y 0) 0)))) := by
  unfold out0_7
  rw [canon7_eq]
  pointwise [E7]

/-- The block of scales. -/
theorem out8 (x0 : Vec Ideal S12800x1280 .f32) (x1 : Vec Ideal S12800x1 .f32) (x2 : Vec Ideal S1x12800 .f32) (x3 : Vec Ideal S10x12800x128 .fp8e4m3) (x4 x5 x6 : Vec Ideal S10x12800x1 .f32) (y : S8x12800.Idx) :
    out0_8 (F := Ideal) x0 x1 x2 x3 x4 x5 x6 y = x2 (ix2 0 (y 1)) := by
  unfold out0_8
  rw [canon8_eq]
  pointwise [E8]

/-- The source's row is not the destination's. -/
theorem zero_not_mem (b : Fin 10) (f : Fin 128) : (ix3 0 b f : S2x10x128.Idx) ∉ r0_7.set := by
  intro hm
  have h0 : 1 ≤ (0 : ℕ) ∧ (0 : ℕ) < 1 + 1 := Rect.mem_set_unit.mp hm 0
  omega

/-- The source's row in its rectangle. -/
theorem zero_emb (b : Fin 10) (f : Fin 128) : (ix3 0 b f : S2x10x128.Idx) = r0_6.emb (ix3 0 b f) := by
  blk_ext []

/-- The destination's row in its rectangle. -/
theorem one_emb (b : Fin 10) (f : Fin 128) : (ix3 1 b f : S2x10x128.Idx) = r0_7.emb (ix3 0 b f) := by
  blk_ext []

/-- The source's row is the first store's value. -/
theorem canon_zero (p q : Vec Ideal S1x10x128 .f32) (b : Fin 10) (f : Fin 128) :
    View.canon ([⟨r0_7, p⟩, ⟨r0_6, q⟩] : List (View.Piece (Elt Ideal) S2x10x128 .f32)) (ix3 0 b f) = q (ix3 0 b f) := by
  refine (View.canon_cons_of_not_mem (⟨r0_7, p⟩ : View.Piece (Elt Ideal) S2x10x128 .f32) _ (zero_not_mem b f)).trans ?_
  rw [zero_emb]
  exact View.canon_cons_emb ..

/-- The destination's row is the second store's value. -/
theorem canon_one (p q : Vec Ideal S1x10x128 .f32) (b : Fin 10) (f : Fin 128) :
    View.canon ([⟨r0_7, p⟩, ⟨r0_6, q⟩] : List (View.Piece (Elt Ideal) S2x10x128 .f32)) (ix3 1 b f) = p (ix3 0 b f) := by
  rw [one_emb]
  exact View.canon_cons_emb ..

/-- The destination's sum over the nodes. -/
theorem pay1_apply (x3 : Vec Ideal S10x12800x128 .fp8e4m3) (x4 x6 : Vec Ideal S10x12800x1 .f32) (b : Fin 10) (f : Fin 128) :
    k0_pay1 (F := Ideal) (k0_pay4 (View.ld x3 r0_4) (View.ld x4 r0_5)) (View.ld x6 r0_5) (ix3 0 b f)
      = ∑ n : Fin 12800, x6 (ix3 b n 0) * (x3 (ix3 b n f) * x4 (ix3 b n 0)) := by
  pointwise [k0_pay1, k0_pay4]

/-- The source's sum over the nodes. -/
theorem pay5_apply (x3 : Vec Ideal S10x12800x128 .fp8e4m3) (x4 x5 : Vec Ideal S10x12800x1 .f32) (b : Fin 10) (f : Fin 128) :
    k0_pay5 (F := Ideal) (View.ld x3 r0_4) (View.ld x4 r0_5) (View.ld x5 r0_5) (ix3 0 b f)
      = ∑ n : Fin 12800, x5 (ix3 b n 0) * (x3 (ix3 b n f) * x4 (ix3 b n 0)) := by
  pointwise [k0_pay5, k0_pay4]

/-- The block of attention gradients, the source's row. -/
theorem out9_zero (x0 : Vec Ideal S12800x1280 .f32) (x1 : Vec Ideal S12800x1 .f32) (x2 : Vec Ideal S1x12800 .f32) (x3 : Vec Ideal S10x12800x128 .fp8e4m3) (x4 x5 x6 : Vec Ideal S10x12800x1 .f32) (b : Fin 10) (f : Fin 128) :
    out0_9 (F := Ideal) x0 x1 x2 x3 x4 x5 x6 (ix3 0 b f) = ∑ n : Fin 12800, x5 (ix3 b n 0) * (x3 (ix3 b n f) * x4 (ix3 b n 0)) :=
  (canon_zero _ _ b f).trans (pay5_apply x3 x4 x5 b f)

/-- The block of attention gradients, the destination's row. -/
theorem out9_one (x0 : Vec Ideal S12800x1280 .f32) (x1 : Vec Ideal S12800x1 .f32) (x2 : Vec Ideal S1x12800 .f32) (x3 : Vec Ideal S10x12800x128 .fp8e4m3) (x4 x5 x6 : Vec Ideal S10x12800x1 .f32) (b : Fin 10) (f : Fin 128) :
    out0_9 (F := Ideal) x0 x1 x2 x3 x4 x5 x6 (ix3 1 b f) = ∑ n : Fin 12800, x6 (ix3 b n 0) * (x3 (ix3 b n f) * x4 (ix3 b n 0)) :=
  (canon_one _ _ b f).trans (pay1_apply x3 x4 x6 b f)

variable (m : (ℓ : Loc nD τ sig) → Buf (Elt Ideal) ℓ)

/-- The one grid point's blocks all start at the origin. -/
theorem idx (t : Fin cfg0.N) : win0_0.index t = ![0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0]
    ∧ win0_7.index t = ![0, 0] ∧ win0_8.index t = ![0, 0] ∧ win0_9.index t = ![0, 0, 0] :=
  (by decide +kernel : ∀ t : Fin grid0.N, win0_0.index t = ![0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0]
    ∧ win0_7.index t = ![0, 0] ∧ win0_8.index t = ![0, 0] ∧ win0_9.index t = ![0, 0, 0]) t

/-- Window 0 is its whole array. -/
theorem emb0 (t : Fin cfg0.N) (y : S12800x1280.Idx) : (win0_0.blk t).view.emb y = y := by
  blk_ext [idx t]

/-- A read of window 0 is a read of the array. -/
theorem read0 (X : Vec Ideal S12800x1280 .f32) (t : Fin cfg0.N) (i : S12800x1280.Idx) : ((win0_0.blk t).view.read (Elt Ideal) X : Vec Ideal S12800x1280 .f32) i = X i :=
  congrArg X (emb0 t i)

/-- Input window 0 holds its whole array. -/
theorem iblk0 (c : Dev nD) (t : Fin cfg0.N) : (iblk m c 0 t : Vec Ideal S12800x1280 .f32) = (V m c main_v21 : Vec Ideal S12800x1280 .f32) := by
  unfold iblk
  exact funext fun i => read0 (V m c main_v21) t i

/-- Window 1 is its whole array. -/
theorem emb1 (t : Fin cfg0.N) (y : S12800x1.Idx) : (win0_1.blk t).view.emb y = y := by
  blk_ext [idx t]

/-- A read of window 1 is a read of the array. -/
theorem read1 (X : Vec Ideal S12800x1 .f32) (t : Fin cfg0.N) (i : S12800x1.Idx) : ((win0_1.blk t).view.read (Elt Ideal) X : Vec Ideal S12800x1 .f32) i = X i :=
  congrArg X (emb1 t i)

/-- Input window 1 holds its whole array. -/
theorem iblk1 (c : Dev nD) (t : Fin cfg0.N) : (iblk m c 1 t : Vec Ideal S12800x1 .f32) = (V m c main_v42 : Vec Ideal S12800x1 .f32) := by
  unfold iblk
  exact funext fun i => read1 (V m c main_v42) t i

/-- Window 2 is its whole array. -/
theorem emb2 (t : Fin cfg0.N) (y : S1x12800.Idx) : (win0_2.blk t).view.emb y = y := by
  blk_ext [idx t]

/-- A read of window 2 is a read of the array. -/
theorem read2 (X : Vec Ideal S1x12800 .f32) (t : Fin cfg0.N) (i : S1x12800.Idx) : ((win0_2.blk t).view.read (Elt Ideal) X : Vec Ideal S1x12800 .f32) i = X i :=
  congrArg X (emb2 t i)

/-- Input window 2 holds its whole array. -/
theorem iblk2 (c : Dev nD) (t : Fin cfg0.N) : (iblk m c 2 t : Vec Ideal S1x12800 .f32) = (V m c main_v43 : Vec Ideal S1x12800 .f32) := by
  unfold iblk
  exact funext fun i => read2 (V m c main_v43) t i

/-- Window 3 is its whole array. -/
theorem emb3 (t : Fin cfg0.N) (y : S10x12800x128.Idx) : (win0_3.blk t).view.emb y = y := by
  blk_ext [idx t]

/-- A read of window 3 is a read of the array. -/
theorem read3 (X : Vec Ideal S10x12800x128 .fp8e4m3) (t : Fin cfg0.N) (i : S10x12800x128.Idx) : ((win0_3.blk t).view.read (Elt Ideal) X : Vec Ideal S10x12800x128 .fp8e4m3) i = X i :=
  congrArg X (emb3 t i)

/-- Input window 3 holds its whole array. -/
theorem iblk3 (c : Dev nD) (t : Fin cfg0.N) : (iblk m c 3 t : Vec Ideal S10x12800x128 .fp8e4m3) = (V m c main_arg1 : Vec Ideal S10x12800x128 .fp8e4m3) := by
  unfold iblk
  exact funext fun i => read3 (V m c main_arg1) t i

/-- Window 4 is its whole array. -/
theorem emb4 (t : Fin cfg0.N) (y : S10x12800x1.Idx) : (win0_4.blk t).view.emb y = y := by
  blk_ext [idx t]

/-- A read of window 4 is a read of the array. -/
theorem read4 (X : Vec Ideal S10x12800x1 .f32) (t : Fin cfg0.N) (i : S10x12800x1.Idx) : ((win0_4.blk t).view.read (Elt Ideal) X : Vec Ideal S10x12800x1 .f32) i = X i :=
  congrArg X (emb4 t i)

/-- Input window 4 holds its whole array. -/
theorem iblk4 (c : Dev nD) (t : Fin cfg0.N) : (iblk m c 4 t : Vec Ideal S10x12800x1 .f32) = (V m c main_v44 : Vec Ideal S10x12800x1 .f32) := by
  unfold iblk
  exact funext fun i => read4 (V m c main_v44) t i

/-- Window 5 is its whole array. -/
theorem emb5 (t : Fin cfg0.N) (y : S10x12800x1.Idx) : (win0_5.blk t).view.emb y = y := by
  blk_ext [idx t]

/-- A read of window 5 is a read of the array. -/
theorem read5 (X : Vec Ideal S10x12800x1 .f32) (t : Fin cfg0.N) (i : S10x12800x1.Idx) : ((win0_5.blk t).view.read (Elt Ideal) X : Vec Ideal S10x12800x1 .f32) i = X i :=
  congrArg X (emb5 t i)

/-- Input window 5 holds its whole array. -/
theorem iblk5 (c : Dev nD) (t : Fin cfg0.N) : (iblk m c 5 t : Vec Ideal S10x12800x1 .f32) = (V m c main_v46 : Vec Ideal S10x12800x1 .f32) := by
  unfold iblk
  exact funext fun i => read5 (V m c main_v46) t i

/-- Window 6 is its whole array. -/
theorem emb6 (t : Fin cfg0.N) (y : S10x12800x1.Idx) : (win0_6.blk t).view.emb y = y := by
  blk_ext [idx t]

/-- A read of window 6 is a read of the array. -/
theorem read6 (X : Vec Ideal S10x12800x1 .f32) (t : Fin cfg0.N) (i : S10x12800x1.Idx) : ((win0_6.blk t).view.read (Elt Ideal) X : Vec Ideal S10x12800x1 .f32) i = X i :=
  congrArg X (emb6 t i)

/-- Input window 6 holds its whole array. -/
theorem iblk6 (c : Dev nD) (t : Fin cfg0.N) : (iblk m c 6 t : Vec Ideal S10x12800x1 .f32) = (V m c main_v48 : Vec Ideal S10x12800x1 .f32) := by
  unfold iblk
  exact funext fun i => read6 (V m c main_v48) t i

/-- Window 7 is its whole array. -/
theorem emb7 (t : Fin cfg0.N) (y : S12800x1280.Idx) : (win0_7.blk t).view.emb y = y := by
  blk_ext [idx t]

/-- Window 8 is its whole array. -/
theorem emb8 (t : Fin cfg0.N) (y : S8x12800.Idx) : (win0_8.blk t).view.emb y = y := by
  blk_ext [idx t]

/-- Window 9 is its whole array. -/
theorem emb9 (t : Fin cfg0.N) (y : S2x10x128.Idx) : (win0_9.blk t).view.emb y = y := by
  blk_ext [idx t]

end Cert.ReferenceFinIdeal.Value

end
-- ==== Proof.ReferenceFin.lean ====
/-
  What the reference that finishes the gradient computes: its result arrays are `finCodes`, `finScales` and `finAttn` of its arguments.
-/
module

public import proofs.«01_k».proof.Proof.ReferenceFinHost
public import proofs.«01_k».proof.Proof.ReferenceFinBlocks

@[expose] public section

set_option maxRecDepth 16384

noncomputable section

namespace Cert.ReferenceFinIdeal.Value

open Cert.Proof Cert.ReferenceFinIdeal Cert.ReferenceFinIdeal.Gen Idealize.ShloMosaic Idealize.ShloMosaic.TcCoe Idealize.SL.Sem

variable (m : (ℓ : Loc nD τ sig) → Buf (Elt Ideal) ℓ) (ρ : Dev nD → PrngReg)

/-- The finished rows, entry by entry. -/
theorem rows (c : Dev nD) (n : Fin 12800) (x : Fin 1280) : (V m c main_v21 : Vec Ideal S12800x1280 .f32) (ix2 n x)
    = finFull (m ((c : Thread nD τ).loc main_arg0)) (m ((c : Thread nD τ).loc main_arg3)) (m ((c : Thread nD τ).loc main_arg4)) (m ((c : Thread nD τ).loc main_arg5))
        (m ((c : Thread nD τ).loc main_arg6)) n (headC x) (featC x) := by
  rw [v21, fullV_apply]

/-- A row's scale. -/
theorem scale_at (c : Dev nD) (n : Fin 12800) : scaleV (peakV (fullV (m ((c : Thread nD τ).loc main_arg0)) (m ((c : Thread nD τ).loc main_arg3)) (m ((c : Thread nD τ).loc main_arg4))
      (m ((c : Thread nD τ).loc main_arg5)) (m ((c : Thread nD τ).loc main_arg6)))) (ix1 n)
    = scaleOf (peakOf (finFull (m ((c : Thread nD τ).loc main_arg0)) (m ((c : Thread nD τ).loc main_arg3)) (m ((c : Thread nD τ).loc main_arg4)) (m ((c : Thread nD τ).loc main_arg5))
        (m ((c : Thread nD τ).loc main_arg6)) n)) := by
  rw [scaleV_apply, peakV_apply _ _ n fun x => fullV_apply _ _ _ _ _ n x]

/-- The scales, as a column. -/
theorem scale_col (c : Dev nD) (n : Fin 12800) (z : Fin 1) : (V m c main_v42 : Vec Ideal S12800x1 .f32) (ix2 n z)
    = scaleOf (peakOf (finFull (m ((c : Thread nD τ).loc main_arg0)) (m ((c : Thread nD τ).loc main_arg3)) (m ((c : Thread nD τ).loc main_arg4)) (m ((c : Thread nD τ).loc main_arg5))
        (m ((c : Thread nD τ).loc main_arg6)) n)) := by
  rw [v42, ← scale_at]
  pointwise []

/-- The scales, as a row. -/
theorem scale_row (c : Dev nD) (n : Fin 12800) (z : Fin 1) : (V m c main_v43 : Vec Ideal S1x12800 .f32) (ix2 z n)
    = scaleOf (peakOf (finFull (m ((c : Thread nD τ).loc main_arg0)) (m ((c : Thread nD τ).loc main_arg3)) (m ((c : Thread nD τ).loc main_arg4)) (m ((c : Thread nD τ).loc main_arg5))
        (m ((c : Thread nD τ).loc main_arg6)) n)) := by
  rw [v43, ← scale_at]
  pointwise []

/-- The source's sums of the parts. -/
theorem src_at (c : Dev nD) (h : Fin 10) (n : Fin 12800) (z : Fin 1) : (V m c main_v46 : Vec Ideal S10x12800x1 .f32) (ix3 h n z)
    = partSum (m ((c : Thread nD τ).loc main_arg3)) n h := by
  rw [v46, ← partsV_apply]
  pointwise []

/-- The destination's sums of the parts. -/
theorem dst_at (c : Dev nD) (h : Fin 10) (n : Fin 12800) (z : Fin 1) : (V m c main_v48 : Vec Ideal S10x12800x1 .f32) (ix3 h n z)
    = partSum (m ((c : Thread nD τ).loc main_arg4)) n h := by
  rw [v48, ← partsV_apply]
  pointwise []

/-- The activations' scales. -/
theorem hs_at (c : Dev nD) (h : Fin 10) (n : Fin 12800) (z : Fin 1) : (V m c main_v44 : Vec Ideal S10x12800x1 .f32) (ix3 h n z)
    = ((m ((c : Thread nD τ).loc main_arg2)) : Vec Ideal S10x12800 .f32) (ix2 h n) := by
  rw [v44]
  pointwise []

/-- The codes, from the finished rows and their scales. -/
theorem codes_of (dh : Vec Ideal S10x12800x128 .f32) (aS aD : Vec Ideal S30x10x2560 .f32) (sS sD : Vec Ideal S10x128 .f32)
    (X : Vec Ideal S12800x1280 .f32) (Y : Vec Ideal S12800x1 .f32)
    (hX : ∀ n x, X (ix2 n x) = finFull dh aS aD sS sD n (headC x) (featC x))
    (hY : ∀ n z, Y (ix2 n z) = scaleOf (peakOf (finFull dh aS aD sS sD n))) (y : S12800x1280.Idx) :
    min (Ideal.ofBits .f32 0x47600000#32) (max (Ideal.ofBits .f32 0xC7600000#32) (Ideal.div (X y) (Y (ix2 (y 0) 0))))
      = finCodes dh aS aD sS sD y := by
  obtain ⟨n, x, rfl⟩ : ∃ (n : Fin 12800) (x : Fin 1280), y = ix2 n x := ⟨y 0, y 1, by blk_ext []⟩
  have hy : Y (ix2 ((ix2 n x : S12800x1280.Idx) 0) 0) = _ := hY n 0
  rw [hX, hy]
  rfl

/-- The array of codes after the run. -/
theorem codes_final (c : Dev nD) : (dats m 0 c).arrAt 7 cfg0.N = finCodes (m ((c : Thread nD τ).loc main_arg0)) (m ((c : Thread nD τ).loc main_arg3))
      (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  refine (out7 _ _ _ _ _ _ _ y).trans ?_
  rw [iblk0, iblk1]
  refine Eq.trans ?_ (congrArg (finCodes (m ((c : Thread nD τ).loc main_arg0)) (m ((c : Thread nD τ).loc main_arg3))
      (m ((c : Thread nD τ).loc main_arg4)) (m ((c : Thread nD τ).loc main_arg5)) (m ((c : Thread nD τ).loc main_arg6))) (emb7 t y)).symm
  exact codes_of _ _ _ _ _ _ _ (rows m c) (scale_col m c) y

/-- The array of scales after the run. -/
theorem scales_final (c : Dev nD) : (dats m 0 c).arrAt 8 cfg0.N = finScales (m ((c : Thread nD τ).loc main_arg0)) (m ((c : Thread nD τ).loc main_arg3))
      (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  refine (out8 _ _ _ _ _ _ _ y).trans ?_
  rw [iblk2]
  refine Eq.trans ?_ (congrArg (finScales (m ((c : Thread nD τ).loc main_arg0)) (m ((c : Thread nD τ).loc main_arg3))
      (m ((c : Thread nD τ).loc main_arg4)) (m ((c : Thread nD τ).loc main_arg5)) (m ((c : Thread nD τ).loc main_arg6))) (emb8 t y)).symm
  exact scale_row m c (y 1) 0

/-- The order of the three factors does not matter. -/
theorem factors (a s x : EReal) : a * (x * s) = a * s * x := by
  rw [mul_comm x s, mul_assoc]

/-- The array of the attention gradients after the run. -/
theorem attn_final (c : Dev nD) : (dats m 0 c).arrAt 9 cfg0.N = finAttn (m ((c : Thread nD τ).loc main_arg1)) (m ((c : Thread nD τ).loc main_arg2))
      (m ((c : Thread nD τ).loc main_arg3)) (m ((c : Thread nD τ).loc main_arg4)) := by
  refine (dats m 0 c).arrAt_eq_of_covers 9 _ (by decide +kernel) fun t hf y => ?_
  blk_simp
  rw [after0_9, iblk3, iblk4, iblk5, iblk6]
  refine Eq.trans ?_ (congrArg (finAttn (m ((c : Thread nD τ).loc main_arg1)) (m ((c : Thread nD τ).loc main_arg2))
      (m ((c : Thread nD τ).loc main_arg3)) (m ((c : Thread nD τ).loc main_arg4))) (emb9 t y)).symm
  obtain ⟨a, b, f, rfl⟩ : ∃ (a : Fin 2) (b : Fin 10) (f : Fin 128), (y : S2x10x128.Idx) = ix3 a b f := ⟨y 0, y 1, y 2, by blk_ext []⟩
  have harg : (V m c main_arg1 : Vec Ideal S10x12800x128 .fp8e4m3) = m ((c : Thread nD τ).loc main_arg1) := by
    unfold V
    after_reads_simp
  fin_cases a
  · refine (out9_zero _ _ _ _ _ _ _ b f).trans (Finset.sum_congr rfl fun n _ => ?_)
    rw [src_at, hs_at, harg, factors]
    rfl
  · refine (out9_one _ _ _ _ _ _ _ b f).trans (Finset.sum_congr rfl fun n _ => ?_)
    rw [dst_at, hs_at, harg, factors]
    rfl

/-- The whole run: it ends, the results are `finCodes`, `finScales` and `finAttn` of the arguments, and the arguments are as they were. -/
theorem run_values : θ_run defs (onTc (τ := τ) (main (F := Ideal))) ⟨m, fun _ => 0, ρ⟩ fun r => ∀ c : Dev nD,
      r.2.mem ((c : Thread nD τ).loc main_v49_0) = finCodes (m ((c : Thread nD τ).loc main_arg0)) (m ((c : Thread nD τ).loc main_arg3))
      (m ((c : Thread nD τ).loc main_arg4)) (m ((c : Thread nD τ).loc main_arg5)) (m ((c : Thread nD τ).loc main_arg6))
      ∧ r.2.mem ((c : Thread nD τ).loc main_v49_1) = finScales (m ((c : Thread nD τ).loc main_arg0)) (m ((c : Thread nD τ).loc main_arg3))
      (m ((c : Thread nD τ).loc main_arg4)) (m ((c : Thread nD τ).loc main_arg5)) (m ((c : Thread nD τ).loc main_arg6))
      ∧ r.2.mem ((c : Thread nD τ).loc main_v49_2) = finAttn (m ((c : Thread nD τ).loc main_arg1)) (m ((c : Thread nD τ).loc main_arg2))
      (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (codes_final m c), (h c).2.1.trans (scales_final m c),
    (h c).2.2.1.trans (attn_final m c), (h c).2.2.2⟩) (run_blocks m ρ)

end Cert.ReferenceFinIdeal.Value

end
-- ==== Proof.lean ====
/-
  The proof of `Cert.Claim`: the frames of the nine programs (two of them once more under the bounds on the arguments), that each
  kernel's reading over the reals is its own text, and that each of the three kernels has its reference's results. The values
  come from the modules beside: KernelDx, ReferenceDx, KernelDw, ReferenceDw, KernelFin, ReferenceFin, and BoundsFin for the bounds.
-/
module

public import proofs.«01_k».proof.Defs
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.KernelDxIdeal.Value
public import proofs.«01_k».proof.Proof.Gen.ReferenceDxIdeal
public import proofs.«01_k».proof.Proof.Gen.ReferenceDxIdeal.Skeleton
public import proofs.«01_k».proof.Proof.Gen.ReferenceDxIdeal.Launch
public import proofs.«01_k».proof.Proof.Gen.ReferenceDxIdeal.Points
public import proofs.«01_k».proof.Proof.Gen.ReferenceDxIdeal.Frame
public import proofs.«01_k».proof.Proof.Gen.ReferenceDxIdeal.Value
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.KernelDwIdeal.Value
public import proofs.«01_k».proof.Proof.Gen.ReferenceDwIdeal
public import proofs.«01_k».proof.Proof.Gen.ReferenceDwIdeal.Skeleton
public import proofs.«01_k».proof.Proof.Gen.ReferenceDwIdeal.Launch
public import proofs.«01_k».proof.Proof.Gen.ReferenceDwIdeal.Points
public import proofs.«01_k».proof.Proof.Gen.ReferenceDwIdeal.Frame
public import proofs.«01_k».proof.Proof.Gen.ReferenceDwIdeal.Value
public import proofs.«01_k».proof.Proof.KernelDx
public import proofs.«01_k».proof.Proof.ReferenceDx
public import proofs.«01_k».proof.Proof.KernelDw
public import proofs.«01_k».proof.Proof.ReferenceDw
public import Idealize.ShloMosaic.Adequacy
public import Idealize.ShloMosaic.Init
public import proofs.«01_k».proof.Proof.Gen.KernelFin
public import proofs.«01_k».proof.Proof.Gen.KernelFin.Frame
public import proofs.«01_k».proof.Proof.Gen.KernelFinIdeal
public import proofs.«01_k».proof.Proof.Gen.KernelFinIdeal.Value
public import proofs.«01_k».proof.Proof.Gen.ReferenceFinIdeal
public import proofs.«01_k».proof.Proof.Gen.ReferenceFinIdeal.Value
public import proofs.«01_k».proof.Proof.KernelFin
public import proofs.«01_k».proof.Proof.BoundsFin
public import proofs.«01_k».proof.Proof.ReferenceFin

@[expose] public section

noncomputable section

namespace Cert.Proof

open Idealize.ShloMosaic Idealize.SL.Sem

/-- `Cert.algebraic_KernelDxIdeal_ReferenceDxIdeal`: both run, and from equal arguments the results are equal. -/
theorem algebraicDx : Cert.algebraic_KernelDxIdeal_ReferenceDxIdeal (hKernelDxIdeal := Cert.KernelDxIdeal.Gen.facts)
    (hReferenceDxIdeal := Cert.ReferenceDxIdeal.Gen.facts) := by
  intro m g m' g' _ hargs
  refine ⟨fun c => dxVal (m ((c.tc : Thread _ _).loc Cert.KernelDxIdeal.main_arg0))
    (m ((c.tc : Thread _ _).loc Cert.KernelDxIdeal.main_arg1)) (m ((c.tc : Thread _ _).loc Cert.KernelDxIdeal.main_arg2))
    (m ((c.tc : Thread _ _).loc Cert.KernelDxIdeal.main_arg3)), Cert.KernelDxIdeal.Value.run m g, ?_⟩
  refine (θ_run (Cert.ReferenceDxIdeal.defs (F := Ideal)) _ _).mono (fun r h c => ?_) (Cert.ReferenceDxIdeal.Value.run m' g')
  obtain ⟨hv, h0⟩ := h c
  refine ⟨hv.trans ?_, h0⟩
  rw [(hargs c).1, (hargs c).2.1, (hargs c).2.2.1, (hargs c).2.2.2]

/-- `Cert.algebraic_KernelDwIdeal_ReferenceDwIdeal`: both run, and from equal arguments the results are equal. -/
theorem algebraicDw : Cert.algebraic_KernelDwIdeal_ReferenceDwIdeal (hKernelDwIdeal := Cert.KernelDwIdeal.Gen.facts)
    (hReferenceDwIdeal := Cert.ReferenceDwIdeal.Gen.facts) := by
  intro m g m' g' _ hargs
  refine ⟨fun c => dwVal (m ((c.tc : Thread _ _).loc Cert.KernelDwIdeal.main_arg0))
    (m ((c.tc : Thread _ _).loc Cert.KernelDwIdeal.main_arg1)) (m ((c.tc : Thread _ _).loc Cert.KernelDwIdeal.main_arg2))
    (m ((c.tc : Thread _ _).loc Cert.KernelDwIdeal.main_arg3)), Cert.KernelDwIdeal.Value.run m g, ?_⟩
  refine (θ_run (Cert.ReferenceDwIdeal.defs (F := Ideal)) _ _).mono (fun r h c => ?_) (Cert.ReferenceDwIdeal.Value.run m' g')
  obtain ⟨hv, h0⟩ := h c
  refine ⟨hv.trans ?_, h0⟩
  rw [(hargs c).1, (hargs c).2.1, (hargs c).2.2.1, (hargs c).2.2.2]

/-- The side conditions of the bounds' broadcasts. -/
theorem preFacts : Cert.Pre_pre_fin.Facts where
  bcast_S_S10x12800x128 := by decide
  bcast_S_S10x12800 := by decide
  bcast_S_S30x10x2560 := by decide
  bcast_S_S10x128 := by decide

/-- `Cert.algebraic_KernelFinIdeal_ReferenceFinIdeal_pre_pre_fin`: from equal arguments within the bounds both run, and the three
    results are equal. -/
theorem algebraicFin : Cert.algebraic_KernelFinIdeal_ReferenceFinIdeal_pre_pre_fin (hKernelFinIdeal := Cert.KernelFinIdeal.Gen.facts)
    (hReferenceFinIdeal := Cert.ReferenceFinIdeal.Gen.facts) (hPre_pre_fin := preFacts) := by
  intro m g m' g' hpre hargs
  refine ⟨fun c => finCodes (m ((c.tc : Thread _ _).loc Cert.KernelFinIdeal.main_arg0)) (m ((c.tc : Thread _ _).loc Cert.KernelFinIdeal.main_arg3))
      (m ((c.tc : Thread _ _).loc Cert.KernelFinIdeal.main_arg4)) (m ((c.tc : Thread _ _).loc Cert.KernelFinIdeal.main_arg5)) (m ((c.tc : Thread _ _).loc Cert.KernelFinIdeal.main_arg6)),
    fun c => finScales (m ((c.tc : Thread _ _).loc Cert.KernelFinIdeal.main_arg0)) (m ((c.tc : Thread _ _).loc Cert.KernelFinIdeal.main_arg3))
      (m ((c.tc : Thread _ _).loc Cert.KernelFinIdeal.main_arg4)) (m ((c.tc : Thread _ _).loc Cert.KernelFinIdeal.main_arg5)) (m ((c.tc : Thread _ _).loc Cert.KernelFinIdeal.main_arg6)),
    fun c => finAttn (m ((c.tc : Thread _ _).loc Cert.KernelFinIdeal.main_arg1)) (m ((c.tc : Thread _ _).loc Cert.KernelFinIdeal.main_arg2))
      (m ((c.tc : Thread _ _).loc Cert.KernelFinIdeal.main_arg3)) (m ((c.tc : Thread _ _).loc Cert.KernelFinIdeal.main_arg4)),
    Cert.KernelFinIdeal.Value.run_values m g fun c => fine (hP := preFacts) m c (hpre c), ?_⟩
  refine (θ_run (Cert.ReferenceFinIdeal.defs (F := Ideal)) _ _).mono (fun r h c => ?_) (Cert.ReferenceFinIdeal.Value.run_values m' g')
  obtain ⟨e0, e1, e2, e3, e4, e5, e6⟩ := hargs c
  obtain ⟨v0, v1, v2, hk⟩ := h c
  refine ⟨v0.trans ?_, v1.trans ?_, v2.trans ?_, hk⟩
  · rw [e0, e3, e4, e5, e6]
  · rw [e0, e3, e4, e5, e6]
  · rw [e1, e2, e3, e4]

/-- The claims of the three pairs: each program leaves its arguments as they were and its semaphores at zero, each kernel's
    reading over the reals is its own text, and each kernel's results are its reference's. -/
theorem claim : Cert.Claim :=
  ⟨Cert.KernelDx.Gen.facts, Cert.KernelDxIdeal.Gen.facts, Cert.ReferenceDxIdeal.Gen.facts, Cert.KernelDw.Gen.facts,
    Cert.KernelDwIdeal.Gen.facts, Cert.ReferenceDwIdeal.Gen.facts, Cert.KernelFin.Gen.facts, Cert.KernelFinIdeal.Gen.facts,
    Cert.ReferenceFinIdeal.Gen.facts, preFacts, fun m g _ => Cert.KernelDx.Gen.frame m g,
    fun m g _ => Cert.KernelDxIdeal.Gen.frame m g, fun m g _ => Cert.ReferenceDxIdeal.Gen.frame m g,
    fun m g _ => Cert.KernelDw.Gen.frame m g, fun m g _ => Cert.KernelDwIdeal.Gen.frame m g,
    fun m g _ => Cert.ReferenceDwIdeal.Gen.frame m g, fun m g _ => Cert.KernelFin.Gen.frame m g,
    fun m g _ => Cert.KernelFinIdeal.Gen.frame m g, fun m g _ => Cert.KernelFinIdeal.Gen.frame m g,
    fun m g _ => Cert.ReferenceFinIdeal.Gen.frame m g, fun m g _ => Cert.ReferenceFinIdeal.Gen.frame m g,
    trivial, algebraicDx, trivial, algebraicDw, trivial, algebraicFin⟩

end Cert.Proof

end
